-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 2048, 1024]⟩ ⟨3, ![2, 2048, 1024]⟩ (Layout.meshBlock [2, 2] ![[0], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![2048, 512]⟩ ⟨2, ![2048, 1024]⟩ (Layout.meshBlock [2, 2] ![[], [0]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x2048x1024 : Shape := ⟨3, ![1, 2048, 1024]⟩
abbrev S2048x512 : Shape := ⟨2, ![2048, 512]⟩
abbrev S16x64x1024 : Shape := ⟨3, ![16, 64, 1024]⟩
abbrev S16x64x512 : Shape := ⟨3, ![16, 64, 512]⟩
abbrev S16 : Shape := ⟨1, ![16]⟩
abbrev S1 : Shape := ⟨1, ![1]⟩
abbrev S_ : Shape := ⟨0, ![]⟩
abbrev S1x64x1024 : Shape := ⟨3, ![1, 64, 1024]⟩
abbrev S64x1024 : Shape := ⟨2, ![64, 1024]⟩
abbrev S1x64x512 : Shape := ⟨3, ![1, 64, 512]⟩
abbrev S64x512 : Shape := ⟨2, ![64, 512]⟩

abbrev nBuf : Space → Nat
  | .hbm => 2
  | .vmem => 4
  | .smem => 0
  | _ => 0

abbrev bufTy : (tb : Table) → Fin (tcTables nBuf tb) → BufTy
  | .hbm, ⟨0, _⟩ => ⟨S1x2048x1024, .f32⟩
  | .hbm, ⟨1, _⟩ => ⟨S2048x512, .bf16⟩
  | .local _ .vmem, ⟨0, _⟩ => ⟨S16x64x1024, .f32⟩
  | .local _ .vmem, ⟨1, _⟩ => ⟨S16x64x512, .bf16⟩
  | .local _ .vmem, ⟨2, _⟩ => ⟨S16x64x512, .bf16⟩
  | .local _ .vmem, ⟨3, _⟩ => ⟨S16x64x512, .bf16⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 96 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | _ => false

abbrev sig : RefSig :=
  (ofTc nBuf bufTy 1 96 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev barrier0 : Sem sig := 0

abbrev nD : Nat := 4
abbrev τ : Topo := Topo.v7x

variable {F : FTy → Type} [FloatOps F]

abbrev grid0 : Pipeline.Grid := .none

def k0_off1 (d0 : Dev nD) (c0_i32 : BitVec 32) : Fin 3 → Nat :=
  let c0_i32_4 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32 : BitVec 32 := 1024#32
  let v8 : BitVec 32 := Scalar.muli v5 c1024_i32
  let v9 : BitVec 32 := Scalar.addi v8 c0_i32
  let c0_i32_9 : BitVec 32 := 0#32
  ![0, v9.toNat, 0]
def k0_dev1 (d0 : Dev nD) : Nat :=
  let c0_i32_89 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_88 : BitVec 32 := 2#32
  let v122 : BitVec 32 := Scalar.muli v6 c2_i32_88
  let v123 : BitVec 32 := Scalar.addi c0_i32_89 v122
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_90 : BitVec 32 := 1#32
  let v124 : BitVec 32 := Scalar.muli v5 c1_i32_90
  let v125 : BitVec 32 := Scalar.addi v123 v124
  v125.toNat
def k0_dev2 (d0 : Dev nD) : Nat :=
  let c0_i32_93 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_92 : BitVec 32 := 2#32
  let v126 : BitVec 32 := Scalar.muli v2 c2_i32_92
  let v127 : BitVec 32 := Scalar.addi c0_i32_93 v126
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_94 : BitVec 32 := 1#32
  let v128 : BitVec 32 := Scalar.muli v7 c1_i32_94
  let v129 : BitVec 32 := Scalar.addi v127 v128
  v129.toNat
def k0_off2 (d0 : Dev nD) : Fin 3 → Nat :=
  let c0 : Index := 0#32
  let c0_103 : Index := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c512_i32_102 : BitVec 32 := 512#32
  let v136 : BitVec 32 := Scalar.muli v6 c512_i32_102
  let v137 : Index := Scalar.indexCast v136
  ![0, 0, v137.toNat]
def k0_dev3 (d0 : Dev nD) : Nat :=
  let c0_i32_112 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_111 : BitVec 32 := 2#32
  let v144 : BitVec 32 := Scalar.muli v6 c2_i32_111
  let v145 : BitVec 32 := Scalar.addi c0_i32_112 v144
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_113 : BitVec 32 := 1#32
  let v146 : BitVec 32 := Scalar.muli v5 c1_i32_113
  let v147 : BitVec 32 := Scalar.addi v145 v146
  v147.toNat
def k0_off3 (d0 : Dev nD) : Fin 3 → Nat :=
  let c1 : Index := 1#32
  let c0_125 : Index := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c512_i32_124 : BitVec 32 := 512#32
  let v162 : BitVec 32 := Scalar.muli v6 c512_i32_124
  let v163 : Index := Scalar.indexCast v162
  ![1, 0, v163.toNat]
def k0_dev4 (d0 : Dev nD) : Nat :=
  let c0_i32_134 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_133 : BitVec 32 := 2#32
  let v170 : BitVec 32 := Scalar.muli v6 c2_i32_133
  let v171 : BitVec 32 := Scalar.addi c0_i32_134 v170
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_135 : BitVec 32 := 1#32
  let v172 : BitVec 32 := Scalar.muli v5 c1_i32_135
  let v173 : BitVec 32 := Scalar.addi v171 v172
  v173.toNat
def k0_off4 (d0 : Dev nD) : Fin 3 → Nat :=
  let c2 : Index := 2#32
  let c0_147 : Index := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c512_i32_146 : BitVec 32 := 512#32
  let v188 : BitVec 32 := Scalar.muli v6 c512_i32_146
  let v189 : Index := Scalar.indexCast v188
  ![2, 0, v189.toNat]
def k0_dev5 (d0 : Dev nD) : Nat :=
  let c0_i32_156 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_155 : BitVec 32 := 2#32
  let v196 : BitVec 32 := Scalar.muli v6 c2_i32_155
  let v197 : BitVec 32 := Scalar.addi c0_i32_156 v196
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_157 : BitVec 32 := 1#32
  let v198 : BitVec 32 := Scalar.muli v5 c1_i32_157
  let v199 : BitVec 32 := Scalar.addi v197 v198
  v199.toNat
def k0_off5 (d0 : Dev nD) : Fin 3 → Nat :=
  let c3 : Index := 3#32
  let c0_169 : Index := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c512_i32_168 : BitVec 32 := 512#32
  let v214 : BitVec 32 := Scalar.muli v6 c512_i32_168
  let v215 : Index := Scalar.indexCast v214
  ![3, 0, v215.toNat]
def k0_dev6 (d0 : Dev nD) : Nat :=
  let c0_i32_178 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_177 : BitVec 32 := 2#32
  let v222 : BitVec 32 := Scalar.muli v6 c2_i32_177
  let v223 : BitVec 32 := Scalar.addi c0_i32_178 v222
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_179 : BitVec 32 := 1#32
  let v224 : BitVec 32 := Scalar.muli v5 c1_i32_179
  let v225 : BitVec 32 := Scalar.addi v223 v224
  v225.toNat
def k0_off6 (d0 : Dev nD) : Fin 3 → Nat :=
  let c4 : Index := 4#32
  let c0_191 : Index := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c512_i32_190 : BitVec 32 := 512#32
  let v240 : BitVec 32 := Scalar.muli v6 c512_i32_190
  let v241 : Index := Scalar.indexCast v240
  ![4, 0, v241.toNat]
def k0_dev7 (d0 : Dev nD) : Nat :=
  let c0_i32_200 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_199 : BitVec 32 := 2#32
  let v248 : BitVec 32 := Scalar.muli v6 c2_i32_199
  let v249 : BitVec 32 := Scalar.addi c0_i32_200 v248
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_201 : BitVec 32 := 1#32
  let v250 : BitVec 32 := Scalar.muli v5 c1_i32_201
  let v251 : BitVec 32 := Scalar.addi v249 v250
  v251.toNat
def k0_off7 (d0 : Dev nD) : Fin 3 → Nat :=
  let c5 : Index := 5#32
  let c0_213 : Index := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c512_i32_212 : BitVec 32 := 512#32
  let v266 : BitVec 32 := Scalar.muli v6 c512_i32_212
  let v267 : Index := Scalar.indexCast v266
  ![5, 0, v267.toNat]
def k0_dev8 (d0 : Dev nD) : Nat :=
  let c0_i32_222 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_221 : BitVec 32 := 2#32
  let v274 : BitVec 32 := Scalar.muli v6 c2_i32_221
  let v275 : BitVec 32 := Scalar.addi c0_i32_222 v274
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_223 : BitVec 32 := 1#32
  let v276 : BitVec 32 := Scalar.muli v5 c1_i32_223
  let v277 : BitVec 32 := Scalar.addi v275 v276
  v277.toNat
def k0_off8 (d0 : Dev nD) : Fin 3 → Nat :=
  let c6 : Index := 6#32
  let c0_235 : Index := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c512_i32_234 : BitVec 32 := 512#32
  let v292 : BitVec 32 := Scalar.muli v6 c512_i32_234
  let v293 : Index := Scalar.indexCast v292
  ![6, 0, v293.toNat]
def k0_dev9 (d0 : Dev nD) : Nat :=
  let c0_i32_244 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_243 : BitVec 32 := 2#32
  let v300 : BitVec 32 := Scalar.muli v6 c2_i32_243
  let v301 : BitVec 32 := Scalar.addi c0_i32_244 v300
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_245 : BitVec 32 := 1#32
  let v302 : BitVec 32 := Scalar.muli v5 c1_i32_245
  let v303 : BitVec 32 := Scalar.addi v301 v302
  v303.toNat
def k0_off9 (d0 : Dev nD) : Fin 3 → Nat :=
  let c7 : Index := 7#32
  let c0_257 : Index := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c512_i32_256 : BitVec 32 := 512#32
  let v318 : BitVec 32 := Scalar.muli v6 c512_i32_256
  let v319 : Index := Scalar.indexCast v318
  ![7, 0, v319.toNat]
def k0_dev10 (d0 : Dev nD) : Nat :=
  let c0_i32_266 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_265 : BitVec 32 := 2#32
  let v326 : BitVec 32 := Scalar.muli v6 c2_i32_265
  let v327 : BitVec 32 := Scalar.addi c0_i32_266 v326
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_267 : BitVec 32 := 1#32
  let v328 : BitVec 32 := Scalar.muli v5 c1_i32_267
  let v329 : BitVec 32 := Scalar.addi v327 v328
  v329.toNat
def k0_off10 (d0 : Dev nD) : Fin 3 → Nat :=
  let c8 : Index := 8#32
  let c0_279 : Index := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c512_i32_278 : BitVec 32 := 512#32
  let v344 : BitVec 32 := Scalar.muli v6 c512_i32_278
  let v345 : Index := Scalar.indexCast v344
  ![8, 0, v345.toNat]
def k0_dev11 (d0 : Dev nD) : Nat :=
  let c0_i32_288 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_287 : BitVec 32 := 2#32
  let v352 : BitVec 32 := Scalar.muli v6 c2_i32_287
  let v353 : BitVec 32 := Scalar.addi c0_i32_288 v352
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_289 : BitVec 32 := 1#32
  let v354 : BitVec 32 := Scalar.muli v5 c1_i32_289
  let v355 : BitVec 32 := Scalar.addi v353 v354
  v355.toNat
def k0_off11 (d0 : Dev nD) : Fin 3 → Nat :=
  let c9 : Index := 9#32
  let c0_301 : Index := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c512_i32_300 : BitVec 32 := 512#32
  let v370 : BitVec 32 := Scalar.muli v6 c512_i32_300
  let v371 : Index := Scalar.indexCast v370
  ![9, 0, v371.toNat]
def k0_dev12 (d0 : Dev nD) : Nat :=
  let c0_i32_310 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_309 : BitVec 32 := 2#32
  let v378 : BitVec 32 := Scalar.muli v6 c2_i32_309
  let v379 : BitVec 32 := Scalar.addi c0_i32_310 v378
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_311 : BitVec 32 := 1#32
  let v380 : BitVec 32 := Scalar.muli v5 c1_i32_311
  let v381 : BitVec 32 := Scalar.addi v379 v380
  v381.toNat
def k0_off12 (d0 : Dev nD) : Fin 3 → Nat :=
  let c10 : Index := 10#32
  let c0_323 : Index := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c512_i32_322 : BitVec 32 := 512#32
  let v396 : BitVec 32 := Scalar.muli v6 c512_i32_322
  let v397 : Index := Scalar.indexCast v396
  ![10, 0, v397.toNat]
def k0_dev13 (d0 : Dev nD) : Nat :=
  let c0_i32_332 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_331 : BitVec 32 := 2#32
  let v404 : BitVec 32 := Scalar.muli v6 c2_i32_331
  let v405 : BitVec 32 := Scalar.addi c0_i32_332 v404
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_333 : BitVec 32 := 1#32
  let v406 : BitVec 32 := Scalar.muli v5 c1_i32_333
  let v407 : BitVec 32 := Scalar.addi v405 v406
  v407.toNat
def k0_off13 (d0 : Dev nD) : Fin 3 → Nat :=
  let c11 : Index := 11#32
  let c0_345 : Index := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c512_i32_344 : BitVec 32 := 512#32
  let v422 : BitVec 32 := Scalar.muli v6 c512_i32_344
  let v423 : Index := Scalar.indexCast v422
  ![11, 0, v423.toNat]
def k0_dev14 (d0 : Dev nD) : Nat :=
  let c0_i32_354 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_353 : BitVec 32 := 2#32
  let v430 : BitVec 32 := Scalar.muli v6 c2_i32_353
  let v431 : BitVec 32 := Scalar.addi c0_i32_354 v430
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_355 : BitVec 32 := 1#32
  let v432 : BitVec 32 := Scalar.muli v5 c1_i32_355
  let v433 : BitVec 32 := Scalar.addi v431 v432
  v433.toNat
def k0_off14 (d0 : Dev nD) : Fin 3 → Nat :=
  let c12 : Index := 12#32
  let c0_367 : Index := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c512_i32_366 : BitVec 32 := 512#32
  let v448 : BitVec 32 := Scalar.muli v6 c512_i32_366
  let v449 : Index := Scalar.indexCast v448
  ![12, 0, v449.toNat]
def k0_dev15 (d0 : Dev nD) : Nat :=
  let c0_i32_376 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_375 : BitVec 32 := 2#32
  let v456 : BitVec 32 := Scalar.muli v6 c2_i32_375
  let v457 : BitVec 32 := Scalar.addi c0_i32_376 v456
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_377 : BitVec 32 := 1#32
  let v458 : BitVec 32 := Scalar.muli v5 c1_i32_377
  let v459 : BitVec 32 := Scalar.addi v457 v458
  v459.toNat
def k0_off15 (d0 : Dev nD) : Fin 3 → Nat :=
  let c13 : Index := 13#32
  let c0_389 : Index := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c512_i32_388 : BitVec 32 := 512#32
  let v474 : BitVec 32 := Scalar.muli v6 c512_i32_388
  let v475 : Index := Scalar.indexCast v474
  ![13, 0, v475.toNat]
def k0_dev16 (d0 : Dev nD) : Nat :=
  let c0_i32_398 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_397 : BitVec 32 := 2#32
  let v482 : BitVec 32 := Scalar.muli v6 c2_i32_397
  let v483 : BitVec 32 := Scalar.addi c0_i32_398 v482
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_399 : BitVec 32 := 1#32
  let v484 : BitVec 32 := Scalar.muli v5 c1_i32_399
  let v485 : BitVec 32 := Scalar.addi v483 v484
  v485.toNat
def k0_off16 (d0 : Dev nD) : Fin 3 → Nat :=
  let c14 : Index := 14#32
  let c0_411 : Index := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c512_i32_410 : BitVec 32 := 512#32
  let v500 : BitVec 32 := Scalar.muli v6 c512_i32_410
  let v501 : Index := Scalar.indexCast v500
  ![14, 0, v501.toNat]
def k0_dev17 (d0 : Dev nD) : Nat :=
  let c0_i32_420 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_419 : BitVec 32 := 2#32
  let v508 : BitVec 32 := Scalar.muli v6 c2_i32_419
  let v509 : BitVec 32 := Scalar.addi c0_i32_420 v508
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_421 : BitVec 32 := 1#32
  let v510 : BitVec 32 := Scalar.muli v5 c1_i32_421
  let v511 : BitVec 32 := Scalar.addi v509 v510
  v511.toNat
def k0_off17 (d0 : Dev nD) : Fin 3 → Nat :=
  let c15 : Index := 15#32
  let c0_433 : Index := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c512_i32_432 : BitVec 32 := 512#32
  let v526 : BitVec 32 := Scalar.muli v6 c512_i32_432
  let v527 : Index := Scalar.indexCast v526
  ![15, 0, v527.toNat]
def k0_dev18 (d0 : Dev nD) : Nat :=
  let c0_i32_442 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_441 : BitVec 32 := 2#32
  let v534 : BitVec 32 := Scalar.muli v6 c2_i32_441
  let v535 : BitVec 32 := Scalar.addi c0_i32_442 v534
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_443 : BitVec 32 := 1#32
  let v536 : BitVec 32 := Scalar.muli v5 c1_i32_443
  let v537 : BitVec 32 := Scalar.addi v535 v536
  v537.toNat
def k0_off18 (d0 : Dev nD) : Fin 3 → Nat :=
  let c0_449 : Index := 0#32
  let c0_450 : Index := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32_448 : BitVec 32 := 512#32
  let v546 : BitVec 32 := Scalar.muli v2 c512_i32_448
  let v547 : Index := Scalar.indexCast v546
  ![0, 0, v547.toNat]
def k0_off19 (d0 : Dev nD) : Fin 3 → Nat :=
  let c1_455 : Index := 1#32
  let c0_456 : Index := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32_454 : BitVec 32 := 512#32
  let v554 : BitVec 32 := Scalar.muli v2 c512_i32_454
  let v555 : Index := Scalar.indexCast v554
  ![1, 0, v555.toNat]
def k0_off20 (d0 : Dev nD) : Fin 3 → Nat :=
  let c2_461 : Index := 2#32
  let c0_462 : Index := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32_460 : BitVec 32 := 512#32
  let v562 : BitVec 32 := Scalar.muli v2 c512_i32_460
  let v563 : Index := Scalar.indexCast v562
  ![2, 0, v563.toNat]
def k0_off21 (d0 : Dev nD) : Fin 3 → Nat :=
  let c3_467 : Index := 3#32
  let c0_468 : Index := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32_466 : BitVec 32 := 512#32
  let v570 : BitVec 32 := Scalar.muli v2 c512_i32_466
  let v571 : Index := Scalar.indexCast v570
  ![3, 0, v571.toNat]
def k0_off22 (d0 : Dev nD) : Fin 3 → Nat :=
  let c4_473 : Index := 4#32
  let c0_474 : Index := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32_472 : BitVec 32 := 512#32
  let v578 : BitVec 32 := Scalar.muli v2 c512_i32_472
  let v579 : Index := Scalar.indexCast v578
  ![4, 0, v579.toNat]
def k0_off23 (d0 : Dev nD) : Fin 3 → Nat :=
  let c5_479 : Index := 5#32
  let c0_480 : Index := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32_478 : BitVec 32 := 512#32
  let v586 : BitVec 32 := Scalar.muli v2 c512_i32_478
  let v587 : Index := Scalar.indexCast v586
  ![5, 0, v587.toNat]
def k0_off24 (d0 : Dev nD) : Fin 3 → Nat :=
  let c6_485 : Index := 6#32
  let c0_486 : Index := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32_484 : BitVec 32 := 512#32
  let v594 : BitVec 32 := Scalar.muli v2 c512_i32_484
  let v595 : Index := Scalar.indexCast v594
  ![6, 0, v595.toNat]
def k0_off25 (d0 : Dev nD) : Fin 3 → Nat :=
  let c7_491 : Index := 7#32
  let c0_492 : Index := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32_490 : BitVec 32 := 512#32
  let v602 : BitVec 32 := Scalar.muli v2 c512_i32_490
  let v603 : Index := Scalar.indexCast v602
  ![7, 0, v603.toNat]
def k0_off26 (d0 : Dev nD) : Fin 3 → Nat :=
  let c8_497 : Index := 8#32
  let c0_498 : Index := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32_496 : BitVec 32 := 512#32
  let v610 : BitVec 32 := Scalar.muli v2 c512_i32_496
  let v611 : Index := Scalar.indexCast v610
  ![8, 0, v611.toNat]
def k0_off27 (d0 : Dev nD) : Fin 3 → Nat :=
  let c9_503 : Index := 9#32
  let c0_504 : Index := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32_502 : BitVec 32 := 512#32
  let v618 : BitVec 32 := Scalar.muli v2 c512_i32_502
  let v619 : Index := Scalar.indexCast v618
  ![9, 0, v619.toNat]
def k0_off28 (d0 : Dev nD) : Fin 3 → Nat :=
  let c10_509 : Index := 10#32
  let c0_510 : Index := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32_508 : BitVec 32 := 512#32
  let v626 : BitVec 32 := Scalar.muli v2 c512_i32_508
  let v627 : Index := Scalar.indexCast v626
  ![10, 0, v627.toNat]
def k0_off29 (d0 : Dev nD) : Fin 3 → Nat :=
  let c11_515 : Index := 11#32
  let c0_516 : Index := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32_514 : BitVec 32 := 512#32
  let v634 : BitVec 32 := Scalar.muli v2 c512_i32_514
  let v635 : Index := Scalar.indexCast v634
  ![11, 0, v635.toNat]
def k0_off30 (d0 : Dev nD) : Fin 3 → Nat :=
  let c12_521 : Index := 12#32
  let c0_522 : Index := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32_520 : BitVec 32 := 512#32
  let v642 : BitVec 32 := Scalar.muli v2 c512_i32_520
  let v643 : Index := Scalar.indexCast v642
  ![12, 0, v643.toNat]
def k0_off31 (d0 : Dev nD) : Fin 3 → Nat :=
  let c13_527 : Index := 13#32
  let c0_528 : Index := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32_526 : BitVec 32 := 512#32
  let v650 : BitVec 32 := Scalar.muli v2 c512_i32_526
  let v651 : Index := Scalar.indexCast v650
  ![13, 0, v651.toNat]
def k0_off32 (d0 : Dev nD) : Fin 3 → Nat :=
  let c14_533 : Index := 14#32
  let c0_534 : Index := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32_532 : BitVec 32 := 512#32
  let v658 : BitVec 32 := Scalar.muli v2 c512_i32_532
  let v659 : Index := Scalar.indexCast v658
  ![14, 0, v659.toNat]
def k0_off33 (d0 : Dev nD) : Fin 3 → Nat :=
  let c15_539 : Index := 15#32
  let c0_540 : Index := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32_538 : BitVec 32 := 512#32
  let v666 : BitVec 32 := Scalar.muli v2 c512_i32_538
  let v667 : Index := Scalar.indexCast v666
  ![15, 0, v667.toNat]
def k0_off34 (d0 : Dev nD) (c0_i32_555 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32 : BitVec 32 := 1024#32
  let v8 : BitVec 32 := Scalar.muli v5 c1024_i32
  let v684 : BitVec 32 := Scalar.addi v8 c0_i32_555
  let c0_i32_567 : BitVec 32 := 0#32
  ![v684.toNat, 0]
def k0_dev19 (d0 : Dev nD) : Nat :=
  let c0_i32_574 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_573 : BitVec 32 := 2#32
  let v698 : BitVec 32 := Scalar.muli v2 c2_i32_573
  let v699 : BitVec 32 := Scalar.addi c0_i32_574 v698
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_575 : BitVec 32 := 1#32
  let v700 : BitVec 32 := Scalar.muli v7 c1_i32_575
  let v701 : BitVec 32 := Scalar.addi v699 v700
  v701.toNat
def k0_dev20 (d0 : Dev nD) : Nat :=
  let c0_i32_609 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_608 : BitVec 32 := 2#32
  let v733 : BitVec 32 := Scalar.muli v2 c2_i32_608
  let v734 : BitVec 32 := Scalar.addi c0_i32_609 v733
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_610 : BitVec 32 := 1#32
  let v735 : BitVec 32 := Scalar.muli v7 c1_i32_610
  let v736 : BitVec 32 := Scalar.addi v734 v735
  v736.toNat
def k0_dev21 (d0 : Dev nD) : Nat :=
  let c0_i32_644 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_643 : BitVec 32 := 2#32
  let v768 : BitVec 32 := Scalar.muli v2 c2_i32_643
  let v769 : BitVec 32 := Scalar.addi c0_i32_644 v768
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_645 : BitVec 32 := 1#32
  let v770 : BitVec 32 := Scalar.muli v7 c1_i32_645
  let v771 : BitVec 32 := Scalar.addi v769 v770
  v771.toNat
def k0_dev22 (d0 : Dev nD) : Nat :=
  let c0_i32_679 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_678 : BitVec 32 := 2#32
  let v803 : BitVec 32 := Scalar.muli v2 c2_i32_678
  let v804 : BitVec 32 := Scalar.addi c0_i32_679 v803
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_680 : BitVec 32 := 1#32
  let v805 : BitVec 32 := Scalar.muli v7 c1_i32_680
  let v806 : BitVec 32 := Scalar.addi v804 v805
  v806.toNat
def k0_dev23 (d0 : Dev nD) : Nat :=
  let c0_i32_714 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_713 : BitVec 32 := 2#32
  let v838 : BitVec 32 := Scalar.muli v2 c2_i32_713
  let v839 : BitVec 32 := Scalar.addi c0_i32_714 v838
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_715 : BitVec 32 := 1#32
  let v840 : BitVec 32 := Scalar.muli v7 c1_i32_715
  let v841 : BitVec 32 := Scalar.addi v839 v840
  v841.toNat
def k0_dev24 (d0 : Dev nD) : Nat :=
  let c0_i32_749 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_748 : BitVec 32 := 2#32
  let v873 : BitVec 32 := Scalar.muli v2 c2_i32_748
  let v874 : BitVec 32 := Scalar.addi c0_i32_749 v873
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_750 : BitVec 32 := 1#32
  let v875 : BitVec 32 := Scalar.muli v7 c1_i32_750
  let v876 : BitVec 32 := Scalar.addi v874 v875
  v876.toNat
def k0_dev25 (d0 : Dev nD) : Nat :=
  let c0_i32_784 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_783 : BitVec 32 := 2#32
  let v908 : BitVec 32 := Scalar.muli v2 c2_i32_783
  let v909 : BitVec 32 := Scalar.addi c0_i32_784 v908
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_785 : BitVec 32 := 1#32
  let v910 : BitVec 32 := Scalar.muli v7 c1_i32_785
  let v911 : BitVec 32 := Scalar.addi v909 v910
  v911.toNat
def k0_dev26 (d0 : Dev nD) : Nat :=
  let c0_i32_819 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_818 : BitVec 32 := 2#32
  let v943 : BitVec 32 := Scalar.muli v2 c2_i32_818
  let v944 : BitVec 32 := Scalar.addi c0_i32_819 v943
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_820 : BitVec 32 := 1#32
  let v945 : BitVec 32 := Scalar.muli v7 c1_i32_820
  let v946 : BitVec 32 := Scalar.addi v944 v945
  v946.toNat
def k0_dev27 (d0 : Dev nD) : Nat :=
  let c0_i32_854 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_853 : BitVec 32 := 2#32
  let v978 : BitVec 32 := Scalar.muli v2 c2_i32_853
  let v979 : BitVec 32 := Scalar.addi c0_i32_854 v978
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_855 : BitVec 32 := 1#32
  let v980 : BitVec 32 := Scalar.muli v7 c1_i32_855
  let v981 : BitVec 32 := Scalar.addi v979 v980
  v981.toNat
def k0_dev28 (d0 : Dev nD) : Nat :=
  let c0_i32_889 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_888 : BitVec 32 := 2#32
  let v1013 : BitVec 32 := Scalar.muli v2 c2_i32_888
  let v1014 : BitVec 32 := Scalar.addi c0_i32_889 v1013
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_890 : BitVec 32 := 1#32
  let v1015 : BitVec 32 := Scalar.muli v7 c1_i32_890
  let v1016 : BitVec 32 := Scalar.addi v1014 v1015
  v1016.toNat
def k0_dev29 (d0 : Dev nD) : Nat :=
  let c0_i32_924 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_923 : BitVec 32 := 2#32
  let v1048 : BitVec 32 := Scalar.muli v2 c2_i32_923
  let v1049 : BitVec 32 := Scalar.addi c0_i32_924 v1048
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_925 : BitVec 32 := 1#32
  let v1050 : BitVec 32 := Scalar.muli v7 c1_i32_925
  let v1051 : BitVec 32 := Scalar.addi v1049 v1050
  v1051.toNat
def k0_dev30 (d0 : Dev nD) : Nat :=
  let c0_i32_959 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_958 : BitVec 32 := 2#32
  let v1083 : BitVec 32 := Scalar.muli v2 c2_i32_958
  let v1084 : BitVec 32 := Scalar.addi c0_i32_959 v1083
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_960 : BitVec 32 := 1#32
  let v1085 : BitVec 32 := Scalar.muli v7 c1_i32_960
  let v1086 : BitVec 32 := Scalar.addi v1084 v1085
  v1086.toNat
def k0_dev31 (d0 : Dev nD) : Nat :=
  let c0_i32_994 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_993 : BitVec 32 := 2#32
  let v1118 : BitVec 32 := Scalar.muli v2 c2_i32_993
  let v1119 : BitVec 32 := Scalar.addi c0_i32_994 v1118
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_995 : BitVec 32 := 1#32
  let v1120 : BitVec 32 := Scalar.muli v7 c1_i32_995
  let v1121 : BitVec 32 := Scalar.addi v1119 v1120
  v1121.toNat
def k0_dev32 (d0 : Dev nD) : Nat :=
  let c0_i32_1029 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1028 : BitVec 32 := 2#32
  let v1153 : BitVec 32 := Scalar.muli v2 c2_i32_1028
  let v1154 : BitVec 32 := Scalar.addi c0_i32_1029 v1153
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1030 : BitVec 32 := 1#32
  let v1155 : BitVec 32 := Scalar.muli v7 c1_i32_1030
  let v1156 : BitVec 32 := Scalar.addi v1154 v1155
  v1156.toNat
def k0_dev33 (d0 : Dev nD) : Nat :=
  let c0_i32_1064 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1063 : BitVec 32 := 2#32
  let v1188 : BitVec 32 := Scalar.muli v2 c2_i32_1063
  let v1189 : BitVec 32 := Scalar.addi c0_i32_1064 v1188
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1065 : BitVec 32 := 1#32
  let v1190 : BitVec 32 := Scalar.muli v7 c1_i32_1065
  let v1191 : BitVec 32 := Scalar.addi v1189 v1190
  v1191.toNat
def k0_dev34 (d0 : Dev nD) : Nat :=
  let c0_i32_1099 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1098 : BitVec 32 := 2#32
  let v1223 : BitVec 32 := Scalar.muli v2 c2_i32_1098
  let v1224 : BitVec 32 := Scalar.addi c0_i32_1099 v1223
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1100 : BitVec 32 := 1#32
  let v1225 : BitVec 32 := Scalar.muli v7 c1_i32_1100
  let v1226 : BitVec 32 := Scalar.addi v1224 v1225
  v1226.toNat
-- ==== ReferenceIdeal.lean ====
abbrev S2x2048x1024 : Shape := ⟨3, ![2, 2048, 1024]⟩
abbrev S_ : Shape := ⟨0, ![]⟩
abbrev S2048x1024 : Shape := ⟨2, ![2048, 1024]⟩

abbrev nBuf : Space → Nat
  | .hbm => 4
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S_, .f32⟩
  | .hbm, ⟨2, _⟩ => ⟨S2048x1024, .f32⟩
  | .hbm, ⟨3, _⟩ => ⟨S2048x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Loop.lean ====
/-
The kernel of one device as loops over its sixteen chunks.

The printed body is unrolled: every phase appears sixteen times, once per chunk of 64 rows. Here each
phase is written once, at a chunk `k`, and the body is shown to be the sequence of those phases, each
run over the list of the chunks. The proofs of the other files reason about one chunk of one phase.
-/
module

public import proofs.«01_k».proof.Proof.Gen.KernelIdeal
public import proofs.«01_k».proof.Proof.Gen.KernelIdeal.Skeleton
public import proofs.«01_k».proof.Proof.Gen.KernelIdeal.Points

@[expose] public section

noncomputable section

namespace Cert.KProof

open Cert.KernelIdeal Cert.KernelIdeal.Gen
open Idealize.ShloMosaic Idealize.SL.Sem

variable {F : FTy → Type} [FloatOps F]

/-! ## Buffers, chunks and the facts about their offsets -/

/-- The argument of the device. -/
abbrev xM : Memref sig .tc .hbm S1x2048x1024 .f32 := Memref.whole main_arg0
/-- The result of the device. -/
abbrev oM : Memref sig .tc .hbm S2048x512 .bf16 := Memref.whole main_v1
/-- The staged rows of the argument. -/
abbrev cM : Memref sig .tc .vmem S16x64x1024 .f32 := Memref.whole cc0_scratch0
/-- What goes to the x peer. -/
abbrev sM : Memref sig .tc .vmem S16x64x512 .bf16 := Memref.whole cc0_scratch1
/-- What comes from the x peer. -/
abbrev rM : Memref sig .tc .vmem S16x64x512 .bf16 := Memref.whole cc0_scratch2
/-- The sums. -/
abbrev eM : Memref sig .tc .vmem S16x64x512 .bf16 := Memref.whole cc0_scratch3

theorem inbS : ∀ k : Fin 16, ∀ a, (![k.val] : Fin 1 → Nat) a + S1.size a ≤ S16.size a := by decide
theorem inbF : ∀ k : Fin 16, ∀ a, (![k.val, 0, 0] : Fin 3 → Nat) a + S1x64x1024.size a ≤ S16x64x1024.size a := by decide
theorem inbC : ∀ k : Fin 16, ∀ a, (![k.val, 0, 0] : Fin 3 → Nat) a + S1x64x512.size a ≤ S16x64x512.size a := by decide

/-- The offset of the half of a staged chunk that goes to the x peer. -/
def offO (k : Fin 16) (d : Dev nD) : Fin 3 → Nat := ![k.val, 0, k0_off2 d 2]
/-- The offset of the half of a staged chunk the device keeps. -/
def offM (k : Fin 16) (d : Dev nD) : Fin 3 → Nat := ![k.val, 0, k0_off18 d 2]

theorem offO_inb : ∀ (k : Fin 16) (d : Dev nD), ∀ a, offO k d a + S1x64x512.size a ≤ S16x64x1024.size a := by decide +kernel
theorem offM_inb : ∀ (k : Fin 16) (d : Dev nD), ∀ a, offM k d a + S1x64x512.size a ≤ S16x64x1024.size a := by decide +kernel

/-- One chunk of a `16 × 64 × 512` buffer. -/
abbrev rC (k : Fin 16) : Rect S16x64x512 := Rect.unit (s := S16x64x512) ![k.val, 0, 0] S1x64x512.size (inbC k)

theorem packedC : ∀ k : Fin 16, (rC k).PackedRows (EltTy.packing .bf16) := by decide
theorem wordsC : ∀ k : Fin 16, (rC k).WholeWords (EltTy.packing .bf16) := by decide

/-- The semaphore of chunk `k` in an array of sixteen. -/
abbrev semAt (A : DmaSems sig S16) (k : Fin 16) : DmaSem sig :=
  ((A.slice (Rect.unit (s := S16) ![k.val] S1.size (inbS k))).squeeze S_ squeezes_S1_S_).sem

/-- Chunk `k` of the staged rows. -/
abbrev cV (k : Fin 16) : Memref sig .tc .vmem S64x1024 .f32 :=
  (cM.slice (Rect.unit (s := S16x64x1024) ![k.val, 0, 0] S1x64x1024.size (inbF k)) (fun _ => rfl)).squeeze S64x1024 squeezes_S1x64x1024_S64x1024
/-- The rows of the argument that chunk `k` stages. -/
abbrev xV (d : Dev nD) (k : Fin 16) : Memref sig .tc .hbm S64x1024 .f32 :=
  (xM.slice (Rect.unit (s := S1x2048x1024) (k0_off1 d (BitVec.ofNat 32 (64 * k.val))) S1x64x1024.size (k0_off1_inb d k)) (fun _ => rfl)).squeeze S64x1024 squeezes_S1x64x1024_S64x1024
/-- Chunk `k` of a `16 × 64 × 512` buffer. -/
abbrev bV (B : Memref sig .tc .vmem S16x64x512 .bf16) (k : Fin 16) : Memref sig .tc .vmem S64x512 .bf16 :=
  (B.slice (rC k) (fun _ => rfl)).squeeze S64x512 squeezes_S1x64x512_S64x512
/-- The rows of the result that device `d` writes from its chunk `k`. -/
abbrev oV (d : Dev nD) (k : Fin 16) : Memref sig .tc .hbm S64x512 .bf16 :=
  oM.slice (Rect.unit (s := S2048x512) (k0_off34 d (BitVec.ofNat 32 (64 * k.val))) S64x512.size (k0_off34_inb d k)) (fun _ => rfl)

theorem wB {B : Memref sig .tc .vmem S16x64x512 .bf16} (hB : B.IsWhole) (k : Fin 16) : (bV B k).view.WordExact :=
  (hB.wordExact_slice rfl _ (wordsC k)).reshape _ _
theorem wO (d : Dev nD) (k : Fin 16) : (oV d k).view.WordExact :=
  (Memref.isWhole_whole main_v1).wordExact_slice rfl _ (k0_off34_wordsbf16 d k)
theorem wX (d : Dev nD) (k : Fin 16) : (xV d k).view.WordExact := (View.wordExact_bits rfl).reshape _ _
theorem wC (k : Fin 16) : (cV k).view.WordExact := (View.wordExact_bits rfl).reshape _ _

/-- The x peer, as the kernel computes it. -/
abbrev devX (d : Dev nD) : Dev nD := ⟨k0_dev3 d, k0_dev3_lt d⟩
/-- The y peer, as the kernel computes it. -/
abbrev devY (d : Dev nD) : Dev nD := ⟨k0_dev19 d, k0_dev19_lt d⟩

/-! ## The phases at one chunk -/

variable (F) in
/-- Kernel programs of one core. -/
abbrev KP : Type 1 := Prog (TpuEff nD τ sig (Elt F) Λ₀ .tc) PUnit

/-- Start the staging of a chunk. -/
abbrev stStage (d : Dev nD) (k : Fin 16) (K : KP F) : KP F :=
  .op (.enqueueDma (xV d k) (.here (cV k)) (.dma (semAt cc0_scratch4 k)) (wX d k) (wC k) ⟨Or.inl rfl, trivial⟩) fun _ => K

/-- Wait for the staged chunk, round the peer's half of it, send it. -/
abbrev stSend (d : Dev nD) (k : Fin 16) (K : KP F) : KP F :=
  .op (.waitDma2 (semAt cc0_scratch4 k) (xV d k) (cV k) (wX d k) (wC k)) fun _ =>
  .op (.load cM (Rect.unit (s := S16x64x1024) (offO k d) S1x64x512.size (offO_inb k d)).toLoadRect (View.loadsAt_vmem h_S1x64x512)) fun v =>
  .op (.load sM (rC k).toLoadRect (View.loadsAt_vmem h_S1x64x512)) fun _ =>
  .op (.store sM (rC k) (k0_pay7 v) Finset.univ (View.stores_vmem h_S1x64x512 ((Memref.isWhole_whole cc0_scratch1).storeExact_slice rfl _ (packedC k)) (fun _ => rfl)) (.inl rfl)) fun _ =>
  .op (.enqueueDma (bV sM k) (.remote (Dev.tc (devX d)) (bV rM k) (.dma (semAt cc0_scratch6 k))) (.dma (semAt cc0_scratch7 k))
    (wB (Memref.isWhole_whole cc0_scratch1) k) (wB (Memref.isWhole_whole cc0_scratch2) k) ⟨⟨rfl, Or.inl rfl⟩, trivial⟩) fun _ => K

/-- Round the device's own half of a staged chunk. -/
abbrev stKeep (d : Dev nD) (k : Fin 16) (K : KP F) : KP F :=
  .op (.load cM (Rect.unit (s := S16x64x1024) (offM k d) S1x64x512.size (offM_inb k d)).toLoadRect (View.loadsAt_vmem h_S1x64x512)) fun v =>
  .op (.load eM (rC k).toLoadRect (View.loadsAt_vmem h_S1x64x512)) fun _ =>
  .op (.store eM (rC k) (k0_pay7 v) Finset.univ (View.stores_vmem h_S1x64x512 ((Memref.isWhole_whole cc0_scratch3).storeExact_slice rfl _ (packedC k)) (fun _ => rfl)) (.inl rfl)) fun _ => K

/-- Wait for the x peer's chunk, add it, copy the sum into the result, here and at the y peer. -/
abbrev stSum (d : Dev nD) (k : Fin 16) (K : KP F) : KP F :=
  .op (.waitDma2 (semAt cc0_scratch7 k) (bV sM k) (bV rM k) (wB (Memref.isWhole_whole cc0_scratch1) k) (wB (Memref.isWhole_whole cc0_scratch2) k)) fun _ =>
  .op (.load eM (rC k).toLoadRect (View.loadsAt_vmem h_S1x64x512)) fun v =>
  .op (.load rM (rC k).toLoadRect (View.loadsAt_vmem h_S1x64x512)) fun w =>
  .op (.load eM (rC k).toLoadRect (View.loadsAt_vmem h_S1x64x512)) fun _ =>
  .op (.store eM (rC k) (k0_pay52 v w) Finset.univ (View.stores_vmem h_S1x64x512 ((Memref.isWhole_whole cc0_scratch3).storeExact_slice rfl _ (packedC k)) (fun _ => rfl)) (.inl rfl)) fun _ =>
  .op (.enqueueDma (bV eM k) (.here (oV d k)) (.dma (semAt cc0_scratch5 k)) (wB (Memref.isWhole_whole cc0_scratch3) k) (wO d k) ⟨Or.inl rfl, trivial⟩) fun _ =>
  .op (.enqueueDma (bV eM k) (.remote (Dev.tc (devY d)) (oV d k) (.dma (semAt cc0_scratch8 k))) (.dma (semAt cc0_scratch9 k))
    (wB (Memref.isWhole_whole cc0_scratch3) k) (wO d k) ⟨⟨rfl, Or.inl rfl⟩, trivial⟩) fun _ => K

/-- Wait for the y peer's chunk. -/
abbrev stRecv (d : Dev nD) (k : Fin 16) (K : KP F) : KP F :=
  .op (.waitDma2 (semAt cc0_scratch9 k) (bV eM k) (oV d k) (wB (Memref.isWhole_whole cc0_scratch3) k) (wO d k)) fun _ => K

/-- Wait for the three copies that read from this device. -/
abbrev stDrain (d : Dev nD) (k : Fin 16) (K : KP F) : KP F :=
  .op (.waitDma2 (semAt cc0_scratch5 k) (bV eM k) (oV d k) (wB (Memref.isWhole_whole cc0_scratch3) k) (wO d k)) fun _ =>
  .op (.waitDma2 (semAt cc0_scratch8 k) (oV d k) (bV eM k) (wO d k) (wB (Memref.isWhole_whole cc0_scratch3) k)) fun _ =>
  .op (.waitDma2 (semAt cc0_scratch6 k) (bV rM k) (bV sM k) (wB (Memref.isWhole_whole cc0_scratch2) k) (wB (Memref.isWhole_whole cc0_scratch1) k)) fun _ => K

/-- The handshake: one unit to each peer, two units back. -/
abbrev stBarrier (d : Dev nD) (K : KP F) : KP F :=
  .op (.semSignal (Dev.tc (⟨k0_dev1 d, k0_dev1_lt d⟩ : Dev nD)) (sig.barrier 0 rfl) 1) fun _ =>
  .op (.semSignal (Dev.tc (⟨k0_dev2 d, k0_dev2_lt d⟩ : Dev nD)) (sig.barrier 0 rfl) 1) fun _ =>
  .op (.semWait (sig.barrier 0 rfl) 2) fun _ => K

/-- The chunks, in order. -/
abbrev chunks : List (Fin 16) := [0, 1, 2, 3, 4, 5, 6, 7, 8, 9, 10, 11, 12, 13, 14, 15]

/-- A phase over a list of chunks, then a rest. -/
def run (f : Fin 16 → KP F → KP F) : List (Fin 16) → KP F → KP F
  | [], K => K
  | k :: l, K => f k (run f l K)

/-- The phases of device `d`. -/
def phases (d : Dev nD) : KP F :=
  run (stStage d) chunks <| stBarrier d <| run (stSend d) chunks <| run (stKeep d) chunks <|
    run (stSum d) chunks <| run (stRecv d) chunks <| run (stDrain d) chunks <| .ret ⟨⟩

set_option maxRecDepth 100000 in
set_option maxHeartbeats 4000000 in
/-- The printed body is the phases, at the device that runs it. -/
theorem body_eq (t : Fin cfg0.N) : bodyAt0 (F := F) t = .op .deviceId fun d => phases d := rfl

end Cert.KProof

end
-- ==== Proof.Contents.lean ====
/-
What each buffer holds, and where each chunk lies.

The devices form a 2 × 2 mesh: device `c` is at `(c / 2, c % 2)`. Its x peer differs in the first coordinate, its y
peer in the second. Every buffer's contents are one function of the buffer's whole index set, so that a chunk is a
restriction of it and chunks join to the buffer without more ado.
-/
module

public import proofs.«01_k».proof.Proof.Loop
public import Idealize.ShloMosaic.Lib.ValueLayout
public import Idealize.ShloMosaic.Lib.Tactic

@[expose] public section

noncomputable section

namespace Cert.KProof

open Cert.KernelIdeal Cert.KernelIdeal.Gen
open Idealize.ShloMosaic Idealize.SL.Sem
open Idealize.ShloMosaic.TcCoe
open Idealize.ShloMosaic.ValueIdx

variable {F : FTy → Type} [FloatOps F]

/-! ## The mesh -/

/-- The x peer. -/
def px (c : Dev nD) : Dev nD := ⟨(c.val + 2) % 4, Nat.mod_lt _ (by decide)⟩
/-- The y peer. -/
def py (c : Dev nD) : Dev nD := ⟨2 * (c.val / 2) + 1 - c.val % 2, by have h : c.val < 4 := c.isLt; show _ < 4; omega⟩

theorem px_px : ∀ c, px (px c) = c := by decide
theorem py_py : ∀ c, py (py c) = c := by decide
theorem px_ne : ∀ c, px c ≠ c := by decide
theorem py_ne : ∀ c, py c ≠ c := by decide
theorem px_mod : ∀ c : Dev nD, (px c).val % 2 = c.val % 2 := by decide
theorem py_mod : ∀ c : Dev nD, (py c).val % 2 = 1 - c.val % 2 := by decide
theorem dev1_eq : ∀ c : Dev nD, (⟨k0_dev1 c, k0_dev1_lt c⟩ : Dev nD) = px c := by decide +kernel
theorem dev2_eq : ∀ c : Dev nD, (⟨k0_dev2 c, k0_dev2_lt c⟩ : Dev nD) = py c := by decide +kernel
theorem devX_eq : ∀ c : Dev nD, devX c = px c := by decide +kernel
theorem devY_eq : ∀ c : Dev nD, devY c = py c := dev2_eq

/-- The x peers, as a permutation. -/
def pxE : Dev nD ≃ Dev nD := ⟨px, px, px_px, px_px⟩
/-- The y peers, as a permutation. -/
def pyE : Dev nD ≃ Dev nD := ⟨py, py, py_py, py_py⟩

/-! ## Where an element of a chunk lies -/

/-- Row `i` of chunk `k` is row `64 k + i` of the half of the rows with index `d % 2`. -/
theorem row_lt (d : Dev nD) (k : Fin 16) (i : Fin 64) : 1024 * (d.val % 2) + 64 * k.val + i.val < 2048 := by
  have := k.isLt; have := i.isLt; omega
/-- That row. -/
def row (d : Dev nD) (k : Fin 16) (i : Fin 64) : Fin 2048 := ⟨1024 * (d.val % 2) + 64 * k.val + i.val, row_lt d k i⟩

/-- An index of a chunk of the staged rows, with the unit axis put back. -/
theorem unsqF (h : S64x1024.numel = S1x64x1024.numel) (x : S64x1024.Idx) :
    Shape.reshapeEquiv h x = (ix3 (0 : Fin 1) (x 0) (x 1) : S1x64x1024.Idx) :=
  (congrArg (Shape.reshapeEquiv h) (eq_ix2 x)).trans (reshapeEquiv_ix2_1ab (a := 64) (b := 1024) h (x 0) (x 1))
/-- An index of a chunk of a `16 × 64 × 512` array, with the unit axis put back. -/
theorem unsqC (h : S64x512.numel = S1x64x512.numel) (x : S64x512.Idx) :
    Shape.reshapeEquiv h x = (ix3 (0 : Fin 1) (x 0) (x 1) : S1x64x512.Idx) :=
  (congrArg (Shape.reshapeEquiv h) (eq_ix2 x)).trans (reshapeEquiv_ix2_1ab (a := 64) (b := 512) h (x 0) (x 1))

/-- An element of chunk `k` of the staged rows. -/
theorem cV_emb (k : Fin 16) (x : S64x1024.Idx) : ((cV k).view.emb x : S16x64x1024.Idx) = ix3 k (x 0) (x 1) := by
  refine (congrArg (Rect.unit (s := S16x64x1024) ![k.val, 0, 0] S1x64x1024.size (inbF k)).emb (unsqF _ x)).trans ?_
  funext a
  apply Fin.ext
  rw [Rect.emb_apply]
  match a with
  | ⟨0, _⟩ => show k.val + 1 * 0 = k.val; omega
  | ⟨1, _⟩ => show 0 + 1 * (x 0).val = (x 0).val; omega
  | ⟨2, _⟩ => show 0 + 1 * (x 1).val = (x 1).val; omega

/-- The offset of the rows that chunk `k` stages. -/
theorem off1_at (d : Dev nD) (k : Fin 16) (a : Fin 3) :
    k0_off1 d (BitVec.ofNat 32 (64 * k.val)) a = (![0, 1024 * (d.val % 2) + 64 * k.val, 0] : Fin 3 → ℕ) a := congrFun (k0_off1_eq d k) a
/-- The offset of the rows that chunk `k` fills. -/
theorem off34_at (d : Dev nD) (k : Fin 16) (a : Fin 2) :
    k0_off34 d (BitVec.ofNat 32 (64 * k.val)) a = (![1024 * (d.val % 2) + 64 * k.val, 0] : Fin 2 → ℕ) a := congrFun (k0_off34_eq d k) a

/-- An element of the rows of the argument that chunk `k` stages. -/
theorem xV_emb (d : Dev nD) (k : Fin 16) (x : S64x1024.Idx) :
    ((xV d k).view.emb x : S1x2048x1024.Idx) = ix3 (0 : Fin 1) (row d k (x 0)) (x 1) := by
  refine (congrArg (Rect.unit (s := S1x2048x1024) (k0_off1 d (BitVec.ofNat 32 (64 * k.val))) S1x64x1024.size (k0_off1_inb d k)).emb
    (unsqF _ x)).trans ?_
  funext a
  apply Fin.ext
  rw [Rect.emb_apply]
  refine (congrArg (· + 1 * _) (off1_at d k a)).trans ?_
  match a with
  | ⟨0, _⟩ => rfl
  | ⟨1, _⟩ => show 1024 * (d.val % 2) + 64 * k.val + 1 * (x 0).val = 1024 * (d.val % 2) + 64 * k.val + (x 0).val; omega
  | ⟨2, _⟩ => show 0 + 1 * (x 1).val = (x 1).val; omega

/-- An element of chunk `k` of a `16 × 64 × 512` array, by its rectangle. -/
theorem rC_emb (k : Fin 16) (y : S1x64x512.Idx) : (rC k).emb y = (ix3 k (y 1) (y 2) : S16x64x512.Idx) := by
  funext a
  apply Fin.ext
  rw [Rect.emb_apply]
  match a with
  | ⟨0, _⟩ => show k.val + 1 * (y 0).val = k.val; have : (y 0).val < 1 := (y 0).isLt; omega
  | ⟨1, _⟩ => show 0 + 1 * (y 1).val = (y 1).val; omega
  | ⟨2, _⟩ => show 0 + 1 * (y 2).val = (y 2).val; omega

/-- An element of chunk `k` of a `16 × 64 × 512` array, by its view. -/
theorem rC_emb2 (k : Fin 16) (x : S64x512.Idx) (h : S64x512.numel = S1x64x512.numel) :
    (rC k).emb (Shape.reshapeEquiv h x) = (ix3 k (x 0) (x 1) : S16x64x512.Idx) :=
  (congrArg (rC k).emb (unsqC h x)).trans (rC_emb k (ix3 (0 : Fin 1) (x 0) (x 1)))

/-- An element of the rows of the result that chunk `k` of device `d` fills. -/
theorem oV_emb (d : Dev nD) (k : Fin 16) (x : S64x512.Idx) :
    ((oV d k).view.emb x : S2048x512.Idx) = ix2 (row d k (x 0)) (x 1) := by
  show (Rect.unit (s := S2048x512) (k0_off34 d (BitVec.ofNat 32 (64 * k.val))) S64x512.size (k0_off34_inb d k)).emb x = _
  funext a
  apply Fin.ext
  rw [Rect.emb_apply]
  refine (congrArg (· + 1 * _) (off34_at d k a)).trans ?_
  match a with
  | ⟨0, _⟩ => show 1024 * (d.val % 2) + 64 * k.val + 1 * (x 0).val = 1024 * (d.val % 2) + 64 * k.val + (x 0).val; omega
  | ⟨1, _⟩ => show 0 + 1 * (x 1).val = (x 1).val; omega

/-! ## The index set of a chunk -/

/-- Chunk `k` of the staged rows. -/
def cI (k : Fin 16) : Finset S16x64x1024.Idx := Finset.univ.filter fun i => (i 0).val = k.val
/-- Chunk `k` of a `16 × 64 × 512` array. -/
def bI (k : Fin 16) : Finset S16x64x512.Idx := Finset.univ.filter fun i => (i 0).val = k.val
/-- The rows of the argument that chunk `k` of device `d` stages. -/
def xI (d : Dev nD) (k : Fin 16) : Finset S1x2048x1024.Idx := Finset.univ.filter fun i => (i 1).val / 64 = 16 * (d.val % 2) + k.val
/-- The rows of the result that chunk `k` of device `d` fills. -/
def oI (d : Dev nD) (k : Fin 16) : Finset S2048x512.Idx := Finset.univ.filter fun i => (i 0).val / 64 = 16 * (d.val % 2) + k.val

theorem row_div (d : Dev nD) (k : Fin 16) (i : Fin 64) : (row d k i).val / 64 = 16 * (d.val % 2) + k.val := by
  have := i.isLt
  show (1024 * (d.val % 2) + 64 * k.val + i.val) / 64 = _
  omega
theorem row_of_div {d : Dev nD} {k : Fin 16} {r : Fin 2048} (h : r.val / 64 = 16 * (d.val % 2) + k.val) :
    row d k ⟨r.val % 64, Nat.mod_lt _ (by decide)⟩ = r := by
  apply Fin.ext
  show 1024 * (d.val % 2) + 64 * k.val + r.val % 64 = r.val
  omega

theorem cV_set (k : Fin 16) : (cV k).view.set = cI k := by
  ext i
  constructor
  · intro h
    obtain ⟨x, -, rfl⟩ := Finset.mem_map.mp h
    have e := cV_emb k x
    show (cV k).view.emb x ∈ cI k
    rw [e]
    exact Finset.mem_filter.mpr ⟨Finset.mem_univ _, rfl⟩
  · intro h
    have h0 : (i 0 : Fin 16) = k := Fin.ext (Finset.mem_filter.mp h).2
    have e : (cV k).view.emb (ix2 (i 1) (i 2)) = i := (cV_emb k (ix2 (i 1) (i 2))).trans (by rw [← h0]; exact (eq_ix3 i).symm)
    rw [← e]
    exact View.emb_mem_set _ _
theorem xV_set (d : Dev nD) (k : Fin 16) : (xV d k).view.set = xI d k := by
  ext i
  constructor
  · intro h
    obtain ⟨x, -, rfl⟩ := Finset.mem_map.mp h
    have e := xV_emb d k x
    show (xV d k).view.emb x ∈ xI d k
    rw [e]
    exact Finset.mem_filter.mpr ⟨Finset.mem_univ _, row_div d k (x 0)⟩
  · intro h
    have h0 := (Finset.mem_filter.mp h).2
    have e : (xV d k).view.emb (ix2 (⟨(i 1).val % 64, Nat.mod_lt _ (by decide)⟩ : Fin 64) (i 2)) = i := by
      refine (xV_emb d k _).trans ?_
      refine Eq.trans ?_ (eq_ix3 i).symm
      have e0 : (0 : Fin 1) = i 0 := Fin.ext (by have : (i 0).val < 1 := (i 0).isLt; show 0 = (i 0).val; omega)
      rw [← e0]
      exact congrArg (fun r => ix3 (0 : Fin 1) r (i 2)) (row_of_div h0)
    rw [← e]
    exact View.emb_mem_set _ _
theorem rC_set (k : Fin 16) : (rC k).set = bI k := by
  ext i
  constructor
  · intro h
    rw [← Rect.map_emb_univ] at h
    obtain ⟨x, -, rfl⟩ := Finset.mem_map.mp h
    rw [rC_emb]
    exact Finset.mem_filter.mpr ⟨Finset.mem_univ _, rfl⟩
  · intro h
    have h0 : (i 0 : Fin 16) = k := Fin.ext (Finset.mem_filter.mp h).2
    have e : (rC k).emb (ix3 (0 : Fin 1) (i 1) (i 2)) = i := by
      rw [rC_emb, ← h0]; exact (eq_ix3 i).symm
    rw [← e, ← Rect.map_emb_univ]
    exact Finset.mem_map_of_mem _ (Finset.mem_univ _)
theorem sV_set (k : Fin 16) : (bV sM k).view.set = bI k := by
  refine (View.set_reshape _ _).trans ((View.set_slice_whole cc0_scratch1 (rC k)).trans (rC_set k))
theorem rV_set (k : Fin 16) : (bV rM k).view.set = bI k := by
  refine (View.set_reshape _ _).trans ((View.set_slice_whole cc0_scratch2 (rC k)).trans (rC_set k))
theorem eV_set (k : Fin 16) : (bV eM k).view.set = bI k := by
  refine (View.set_reshape _ _).trans ((View.set_slice_whole cc0_scratch3 (rC k)).trans (rC_set k))
theorem oV_set (d : Dev nD) (k : Fin 16) : (oV d k).view.set = oI d k := by
  ext i
  constructor
  · intro h
    obtain ⟨x, -, rfl⟩ := Finset.mem_map.mp h
    have e := oV_emb d k x
    show (oV d k).view.emb x ∈ oI d k
    rw [e]
    exact Finset.mem_filter.mpr ⟨Finset.mem_univ _, row_div d k (x 0)⟩
  · intro h
    have h0 := (Finset.mem_filter.mp h).2
    have e : (oV d k).view.emb (ix2 (⟨(i 0).val % 64, Nat.mod_lt _ (by decide)⟩ : Fin 64) (i 1)) = i := by
      refine (oV_emb d k _).trans ?_
      refine Eq.trans ?_ (eq_ix2 i).symm
      exact congrArg (fun r => ix2 r (i 1)) (row_of_div h0)
    rw [← e]
    exact View.emb_mem_set _ _

/-! ## Chunks are disjoint and cover their buffer -/

theorem cI_disj (k k' : Fin 16) (h : k ≠ k') : Disjoint (cI k) (cI k') :=
  Finset.disjoint_filter.mpr fun _ _ e e' => h (Fin.ext (e.symm.trans e'))
theorem cI_cover : Finset.univ.biUnion cI = Finset.univ := by
  ext i
  simp only [Finset.mem_biUnion, Finset.mem_univ, true_and, iff_true]
  exact ⟨(i 0 : Fin 16), Finset.mem_filter.mpr ⟨Finset.mem_univ i, rfl⟩⟩
theorem bI_disj (k k' : Fin 16) (h : k ≠ k') : Disjoint (bI k) (bI k') :=
  Finset.disjoint_filter.mpr fun _ _ e e' => h (Fin.ext (e.symm.trans e'))
theorem bI_cover : Finset.univ.biUnion bI = Finset.univ := by
  ext i
  simp only [Finset.mem_biUnion, Finset.mem_univ, true_and, iff_true]
  exact ⟨(i 0 : Fin 16), Finset.mem_filter.mpr ⟨Finset.mem_univ i, rfl⟩⟩
theorem xI_disj (d : Dev nD) (k k' : Fin 16) (h : k ≠ k') : Disjoint (xI d k) (xI d k') :=
  Finset.disjoint_filter.mpr fun _ _ e e' => h (Fin.ext (by omega))
theorem oI_disj (d : Dev nD) (k k' : Fin 16) (h : k ≠ k') : Disjoint (oI d k) (oI d k') :=
  Finset.disjoint_filter.mpr fun _ _ e e' => h (Fin.ext (by omega))

/-- The rows that device `d` stages. -/
def xS (d : Dev nD) : Finset S1x2048x1024.Idx := Finset.univ.biUnion (xI d)
/-- The rows of the result that device `d` fills. -/
def oS (d : Dev nD) : Finset S2048x512.Idx := Finset.univ.biUnion (oI d)

theorem mem_oS (d : Dev nD) (i : S2048x512.Idx) : i ∈ oS d ↔ (i 0).val / 1024 = d.val % 2 := by
  have hi : (i 0).val < 2048 := (i 0).isLt
  rw [oS, Finset.mem_biUnion]
  constructor
  · rintro ⟨k, -, h⟩
    have h0 := (Finset.mem_filter.mp h).2
    have := k.isLt
    omega
  · intro h
    exact ⟨⟨(i 0).val / 64 - 16 * (d.val % 2), by omega⟩, Finset.mem_univ _, Finset.mem_filter.mpr ⟨Finset.mem_univ _, by
      show (i 0).val / 64 = 16 * (d.val % 2) + ((i 0).val / 64 - 16 * (d.val % 2)); omega⟩⟩
theorem oS_disj (d : Dev nD) : Disjoint (oS d) (oS (py d)) :=
  Finset.disjoint_left.mpr fun i h h' => by
    rw [mem_oS] at h h'; rw [py_mod] at h'; omega
theorem oS_cover (d : Dev nD) : oS d ∪ oS (py d) = Finset.univ := by
  ext i
  have hi : (i 0).val < 2048 := (i 0).isLt
  simp only [Finset.mem_union, mem_oS, py_mod, Finset.mem_univ, iff_true]
  omega

/-! ## Contents -/

section Contents
variable (m : (ℓ : Loc nD τ sig) → Buf (Elt F) ℓ)

/-- The argument of device `c`. -/
def xin (c : Dev nD) : S1x2048x1024.Idx → Elt F .f32 := m ((c : Thread nD τ).loc main_arg0)
/-- The staged rows: those of the half with the device's y coordinate. -/
def chunkFn (c : Dev nD) : S16x64x1024.Idx → Elt F .f32 := fun i => xin m c (ix3 (0 : Fin 1) (row c (i 0) (i 1)) (i 2))
/-- The half of chunk `k` that goes to the x peer, as it is loaded. -/
def ldO (c : Dev nD) (k : Fin 16) : S1x64x512.Idx → Elt F .f32 := fun y =>
  chunkFn m c ((Rect.unit (s := S16x64x1024) (offO k c) S1x64x512.size (offO_inb k c)).emb y)
/-- The half of chunk `k` that stays, as it is loaded. -/
def ldM (c : Dev nD) (k : Fin 16) : S1x64x512.Idx → Elt F .f32 := fun y =>
  chunkFn m c ((Rect.unit (s := S16x64x1024) (offM k c) S1x64x512.size (offM_inb k c)).emb y)
/-- What is sent to the x peer: the halves for it, rounded. -/
def sendFn (c : Dev nD) : S16x64x512.Idx → Elt F .bf16 := fun i => k0_pay7 (ldO m c (i 0)) (ix3 (0 : Fin 1) (i 1) (i 2))
/-- What stays, rounded. -/
def keepFn (c : Dev nD) : S16x64x512.Idx → Elt F .bf16 := fun i => k0_pay7 (ldM m c (i 0)) (ix3 (0 : Fin 1) (i 1) (i 2))
/-- Chunk `k` of a `16 × 64 × 512` array, as it is loaded. -/
def blockOf (f : S16x64x512.Idx → Elt F .bf16) (k : Fin 16) : S1x64x512.Idx → Elt F .bf16 := fun y => f ((rC k).emb y)
/-- The sums: what stays and what comes from the x peer. -/
def sumFn (c : Dev nD) : S16x64x512.Idx → Elt F .bf16 := fun i =>
  k0_pay52 (blockOf (keepFn m c) (i 0)) (blockOf (sendFn m (px c)) (i 0)) (ix3 (0 : Fin 1) (i 1) (i 2))
/-- Row `r` of the result, as chunk and row of the chunk. -/
def srcIx (i : S2048x512.Idx) : S16x64x512.Idx :=
  ix3 (⟨(i 0).val % 1024 / 64, by omega⟩ : Fin 16) (⟨(i 0).val % 64, Nat.mod_lt _ (by decide)⟩ : Fin 64) (i 1)
/-- The result: the device's own sums in its half of the rows, the y peer's in the other. -/
def outFn (c : Dev nD) : S2048x512.Idx → Elt F .bf16 := fun i =>
  if (i 0).val / 1024 = c.val % 2 then sumFn m c (srcIx i) else sumFn m (py c) (srcIx i)

theorem srcIx_row (d : Dev nD) (k : Fin 16) (i : Fin 64) (j : Fin 512) : srcIx (ix2 (row d k i) j) = ix3 k i j := by
  have := i.isLt; have := k.isLt
  funext a
  apply Fin.ext
  match a with
  | ⟨0, _⟩ => show (1024 * (d.val % 2) + 64 * k.val + i.val) % 1024 / 64 = k.val; omega
  | ⟨1, _⟩ => show (1024 * (d.val % 2) + 64 * k.val + i.val) % 64 = i.val; omega
  | ⟨2, _⟩ => rfl

/-- The result in the device's own rows. -/
theorem outFn_own (c : Dev nD) (k : Fin 16) (i : Fin 64) (j : Fin 512) : outFn m c (ix2 (row c k i) j) = sumFn m c (ix3 k i j) := by
  have := k.isLt; have := i.isLt
  unfold outFn
  rw [if_pos (by show (1024 * (c.val % 2) + 64 * k.val + i.val) / 1024 = _; omega), srcIx_row]
/-- The result of the y peer in the device's own rows. -/
theorem outFn_peer (c : Dev nD) (k : Fin 16) (i : Fin 64) (j : Fin 512) : outFn m (py c) (ix2 (row c k i) j) = sumFn m c (ix3 k i j) := by
  have := k.isLt; have := i.isLt
  unfold outFn
  rw [if_neg (by show ¬ (1024 * (c.val % 2) + 64 * k.val + i.val) / 1024 = _; rw [py_mod]; omega), srcIx_row, py_py]

/-! ## What a transfer or a store leaves in a chunk -/

/-- Staging a chunk. -/
theorem land_stage (c : Dev nD) (k : Fin 16) (fd : S16x64x1024.Idx → Elt F .f32) :
    ∀ i ∈ (cV k).view.set, (cV k).view.write (Elt F) fd ((xV c k).view.read (Elt F) (xin m c)) Finset.univ i = chunkFn m c i := by
  intro i hi
  obtain ⟨x, -, rfl⟩ := Finset.mem_map.mp hi
  rw [View.write_emb_of_mem _ _ (Finset.mem_univ x)]
  exact (congrArg (xin m c) (xV_emb c k x)).trans (congrArg (chunkFn m c) (cV_emb k x)).symm
/-- Sending a chunk to the x peer. -/
theorem land_send (k : Fin 16) (fd f : S16x64x512.Idx → Elt F .bf16) :
    ∀ i ∈ (bV rM k).view.set, (bV rM k).view.write (Elt F) fd ((bV sM k).view.read (Elt F) f) Finset.univ i = f i := by
  intro i hi
  obtain ⟨x, -, rfl⟩ := Finset.mem_map.mp hi
  rw [View.write_emb_of_mem _ _ (Finset.mem_univ x)]
  rfl
/-- Copying a chunk of the sums to the device's own rows. -/
theorem land_own (c : Dev nD) (k : Fin 16) (fd : S2048x512.Idx → Elt F .bf16) :
    ∀ i ∈ (oV c k).view.set, (oV c k).view.write (Elt F) fd ((bV eM k).view.read (Elt F) (sumFn m c)) Finset.univ i = outFn m c i := by
  intro i hi
  obtain ⟨x, -, rfl⟩ := Finset.mem_map.mp hi
  rw [View.write_emb_of_mem _ _ (Finset.mem_univ x)]
  refine (congrArg (sumFn m c) (rC_emb2 k x _)).trans ?_
  exact ((congrArg (outFn m c) (oV_emb c k x)).trans (outFn_own m c k (x 0) (x 1))).symm
/-- Sending a chunk of the sums to the same rows of the y peer. -/
theorem land_peer (c : Dev nD) (k : Fin 16) (fd : S2048x512.Idx → Elt F .bf16) :
    ∀ i ∈ (oV c k).view.set, (oV c k).view.write (Elt F) fd ((bV eM k).view.read (Elt F) (sumFn m c)) Finset.univ i = outFn m (py c) i := by
  intro i hi
  obtain ⟨x, -, rfl⟩ := Finset.mem_map.mp hi
  rw [View.write_emb_of_mem _ _ (Finset.mem_univ x)]
  refine (congrArg (sumFn m c) (rC_emb2 k x _)).trans ?_
  exact ((congrArg (outFn m (py c)) (oV_emb c k x)).trans (outFn_peer m c k (x 0) (x 1))).symm

theorem ix3_unit (y : S1x64x512.Idx) : (ix3 (0 : Fin 1) (y 1) (y 2) : S1x64x512.Idx) = y := by
  have e0 : (0 : Fin 1) = y 0 := Fin.ext (by have : (y 0).val < 1 := (y 0).isLt; show 0 = (y 0).val; omega)
  rw [e0]; exact (eq_ix3 y).symm

/-- The store of a chunk to be sent. -/
theorem store_send (c : Dev nD) (k : Fin 16) (f : S16x64x512.Idx → Elt F .bf16) :
    ∀ i ∈ bI k, (sM.access (rC k)).write (Elt F) f (k0_pay7 (ldO m c k)) Finset.univ i = sendFn m c i := by
  intro i hi
  rw [← rC_set, ← Rect.map_emb_univ] at hi
  obtain ⟨y, -, rfl⟩ := Finset.mem_map.mp hi
  refine ((sM.access (rC k)).write_emb_of_mem f _ (Finset.mem_univ y)).trans ?_
  rw [rC_emb]
  show k0_pay7 (ldO m c k) y = k0_pay7 (ldO m c k) (ix3 (0 : Fin 1) (y 1) (y 2))
  rw [ix3_unit]
/-- The store of a chunk that stays. -/
theorem store_keep (c : Dev nD) (k : Fin 16) (f : S16x64x512.Idx → Elt F .bf16) :
    ∀ i ∈ bI k, (eM.access (rC k)).write (Elt F) f (k0_pay7 (ldM m c k)) Finset.univ i = keepFn m c i := by
  intro i hi
  rw [← rC_set, ← Rect.map_emb_univ] at hi
  obtain ⟨y, -, rfl⟩ := Finset.mem_map.mp hi
  refine ((eM.access (rC k)).write_emb_of_mem f _ (Finset.mem_univ y)).trans ?_
  rw [rC_emb]
  show k0_pay7 (ldM m c k) y = k0_pay7 (ldM m c k) (ix3 (0 : Fin 1) (y 1) (y 2))
  rw [ix3_unit]
/-- The store of a chunk of the sums. -/
theorem store_sum (c : Dev nD) (k : Fin 16) (f : S16x64x512.Idx → Elt F .bf16) :
    ∀ i ∈ bI k, (eM.access (rC k)).write (Elt F) f (k0_pay52 (blockOf (keepFn m c) k) (blockOf (sendFn m (px c)) k)) Finset.univ i
      = sumFn m c i := by
  intro i hi
  rw [← rC_set, ← Rect.map_emb_univ] at hi
  obtain ⟨y, -, rfl⟩ := Finset.mem_map.mp hi
  refine ((eM.access (rC k)).write_emb_of_mem f _ (Finset.mem_univ y)).trans ?_
  rw [rC_emb]
  show _ = k0_pay52 (blockOf (keepFn m c) k) (blockOf (sendFn m (px c)) k) (ix3 (0 : Fin 1) (y 1) (y 2))
  rw [ix3_unit]
  rfl

/-- The half of a staged chunk that a device loads lies in the chunk. -/
theorem half_sub (k : Fin 16) (off : ℕ) (inb) :
    (Rect.unit (s := S16x64x1024) ![k.val, 0, off] S1x64x512.size inb).set ⊆ cI k := by
  intro i hi
  rw [← Rect.map_emb_univ] at hi
  obtain ⟨y, -, rfl⟩ := Finset.mem_map.mp hi
  refine Finset.mem_filter.mpr ⟨Finset.mem_univ _, ?_⟩
  rw [Rect.emb_apply]
  show k.val + 1 * (y 0).val = k.val
  have : (y 0).val < 1 := (y 0).isLt
  omega

end Contents

end Cert.KProof

end
-- ==== Proof.Sched.lean ====
/-
The protocol between the devices.

Every device has one barrier cell and ninety-six transfer cells: six arrays of sixteen, one cell per chunk. Each cell is
used for one round. The barrier cell takes one unit from the x peer and one from the y peer; the first hands over the
x peer's receive buffer, the second the rows of the y peer's result that this device fills. A transfer cell takes the
credit of one transfer, which hands over the transfer's two ends with their contents.
-/
module

public import proofs.«01_k».proof.Proof.Contents
public import proofs.«01_k».proof.Proof.Gen.KernelIdeal.Launch
public import Idealize.ShloMosaic.Lib.Pipeline.Launch
public import Idealize.ShloMosaic.Lib.Pipeline.Kit

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state of the cells: duties are named by a Boolean. -/
abbrev UB : Type := URounds (GSem nD τ sig) Bool
/-- With the launch's own. -/
abbrev UU : Type := UR sig nD τ × UB

local notation "𝕄" => MT nD τ sig Unit (Elt F) ℕ UU ℕ

/-- Where the launch's ghost state lies. -/
abbrev EP : Emb (UR sig nD τ) (MT nD τ sig Unit (Elt F) ℕ UU ℕ) := embL
/-- Where the cells' ghost state lies. -/
abbrev ER : Emb UB (MT nD τ sig Unit (Elt F) ℕ UU ℕ) := embR

/-! ## The cells -/

/-- The barrier semaphore. -/
abbrev barS : Sem sig := sig.barrier 0 rfl
/-- The six arrays: staging, result, send to x, receive from x, send to y, receive from y. -/
abbrev arr : Fin 6 → DmaSems sig S16 := fun
  | 0 => cc0_scratch4 | 1 => cc0_scratch5 | 2 => cc0_scratch6 | 3 => cc0_scratch7 | 4 => cc0_scratch8 | 5 => cc0_scratch9
/-- The semaphore of chunk `k` in array `j`. -/
abbrev dsem (j : Fin 6) (k : Fin 16) : DmaSem sig := semAt (arr j) k
/-- The array a semaphore is of. -/
def jOf (q : DmaSem sig) : Fin 6 := ⟨q.val / 16, by have h : q.val < 96 := q.isLt; omega⟩
/-- The chunk a semaphore is of. -/
def kOf (q : DmaSem sig) : Fin 16 := ⟨q.val % 16, Nat.mod_lt _ (by decide)⟩

theorem jOf_dsem : ∀ j k, jOf (dsem j k) = j := by decide +kernel
theorem kOf_dsem : ∀ j k, kOf (dsem j k) = k := by decide +kernel
theorem dsem_of : ∀ q, dsem (jOf q) (kOf q) = q := by decide +kernel

/-- The barrier cell of device `c`. -/
abbrev barCell (c : Dev nD) : GSem nD τ sig := ((c : Thread nD τ), .reg barS)
/-- The cell of chunk `k` in array `j` of device `c`. -/
abbrev dCell (j : Fin 6) (c : Dev nD) (k : Fin 16) : GSem nD τ sig := ((c : Thread nD τ), .dma (dsem j k))

/-- The credit of staging a chunk. -/
abbrev NA : ℕ := (cV 0).view.dmaCredit
/-- The credit of every other transfer. -/
abbrev NB : ℕ := (bV sM 0).view.dmaCredit
theorem NA_pos : 0 < NA := View.dmaCredit_pos _ (by decide)
theorem NB_pos : 0 < NB := View.dmaCredit_pos _ (by decide)
/-- The credit of a transfer into a chunk of array `j`. -/
def NJ (j : Fin 6) : ℕ := if j = 0 then NA else NB
theorem NJ_pos (j : Fin 6) : 0 < NJ j := by unfold NJ; split; exacts [NA_pos, NB_pos]

/-! ## The pieces that change hands -/

/-- Chunk `k` of the staged rows of device `c`. -/
def cPt (c : Dev nD) (k : Fin 16) (f : S16x64x1024.Idx → Elt F .f32) : sProp 𝕄 :=
  (cV k).view.loc (c : Thread nD τ) ↦[(cV k).view.set]{fullShare} f
/-- The rows of the argument of device `c` that its chunk `k` stages. -/
def xPt (c : Dev nD) (k : Fin 16) (f : S1x2048x1024.Idx → Elt F .f32) : sProp 𝕄 :=
  (xV c k).view.loc (c : Thread nD τ) ↦[(xV c k).view.set]{fullShare} f
/-- Chunk `k` of the send buffer. -/
def sPt (c : Dev nD) (k : Fin 16) (f : S16x64x512.Idx → Elt F .bf16) : sProp 𝕄 :=
  (bV sM k).view.loc (c : Thread nD τ) ↦[(bV sM k).view.set]{fullShare} f
/-- Chunk `k` of the receive buffer. -/
def rPt (c : Dev nD) (k : Fin 16) (f : S16x64x512.Idx → Elt F .bf16) : sProp 𝕄 :=
  (bV rM k).view.loc (c : Thread nD τ) ↦[(bV rM k).view.set]{fullShare} f
/-- A share of chunk `k` of the sums. -/
def ePt (q : PosShare TreeShare) (c : Dev nD) (k : Fin 16) (f : S16x64x512.Idx → Elt F .bf16) : sProp 𝕄 :=
  (bV eM k).view.loc (c : Thread nD τ) ↦[(bV eM k).view.set]{q} f
/-- The rows of the result of device `c` that chunk `k` of device `d` fills. -/
def oPt (d c : Dev nD) (k : Fin 16) (f : S2048x512.Idx → Elt F .bf16) : sProp 𝕄 :=
  (oV d k).view.loc (c : Thread nD τ) ↦[(oV d k).view.set]{fullShare} f

omit [FloatOps F] in
theorem cPt_eq (c : Dev nD) (k : Fin 16) (f) : cPt (F := F) c k f = ((c : Thread nD τ).loc cc0_scratch0 ↦[cI k]{fullShare} f) := by
  unfold cPt; rw [cV_set]
omit [FloatOps F] in
theorem xPt_eq (c : Dev nD) (k : Fin 16) (f) : xPt (F := F) c k f = ((c : Thread nD τ).loc main_arg0 ↦[xI c k]{fullShare} f) := by
  unfold xPt; rw [xV_set]
omit [FloatOps F] in
theorem sPt_eq (c : Dev nD) (k : Fin 16) (f) : sPt (F := F) c k f = ((c : Thread nD τ).loc cc0_scratch1 ↦[bI k]{fullShare} f) := by
  unfold sPt; rw [sV_set]
omit [FloatOps F] in
theorem rPt_eq (c : Dev nD) (k : Fin 16) (f) : rPt (F := F) c k f = ((c : Thread nD τ).loc cc0_scratch2 ↦[bI k]{fullShare} f) := by
  unfold rPt; rw [rV_set]
omit [FloatOps F] in
theorem ePt_eq (q) (c : Dev nD) (k : Fin 16) (f) : ePt (F := F) q c k f = ((c : Thread nD τ).loc cc0_scratch3 ↦[bI k]{q} f) := by
  unfold ePt; rw [eV_set]
omit [FloatOps F] in
theorem oPt_eq (d c : Dev nD) (k : Fin 16) (f) : oPt (F := F) d c k f = ((c : Thread nD τ).loc main_v1 ↦[oI d k]{fullShare} f) := by
  unfold oPt; rw [oV_set]

omit [FloatOps F] in
instance cPt_storable (c : Dev nD) (k f) : BI.Storable (upEmb : UEmb _ 𝕄) (cPt (F := F) c k f) := by unfold cPt; infer_instance
omit [FloatOps F] in
instance xPt_storable (c : Dev nD) (k f) : BI.Storable (upEmb : UEmb _ 𝕄) (xPt (F := F) c k f) := by unfold xPt; infer_instance
omit [FloatOps F] in
instance sPt_storable (c : Dev nD) (k f) : BI.Storable (upEmb : UEmb _ 𝕄) (sPt (F := F) c k f) := by unfold sPt; infer_instance
omit [FloatOps F] in
instance rPt_storable (c : Dev nD) (k f) : BI.Storable (upEmb : UEmb _ 𝕄) (rPt (F := F) c k f) := by unfold rPt; infer_instance
omit [FloatOps F] in
instance ePt_storable (q) (c : Dev nD) (k f) : BI.Storable (upEmb : UEmb _ 𝕄) (ePt (F := F) q c k f) := by unfold ePt; infer_instance
omit [FloatOps F] in
instance oPt_storable (d c : Dev nD) (k f) : BI.Storable (upEmb : UEmb _ 𝕄) (oPt (F := F) d c k f) := by unfold oPt; infer_instance

variable (m : (ℓ : Loc nD τ sig) → Buf (Elt F) ℓ)

/-! ## The schedule -/

/-- What the transfer of chunk `k` in array `j` hands device `c`. -/
def dPay (c : Dev nD) (j : Fin 6) (k : Fin 16) : sProp 𝕄 :=
  match j with
  | 0 => iprop(cPt c k (chunkFn m c) ∗ xPt c k (xin m c))
  | 1 => iprop(oPt c c k (outFn m c) ∗ ePt fullShare.left c k (sumFn m c))
  | 2 => sPt c k (sendFn m c)
  | 3 => rPt c k (sendFn m (px c))
  | 4 => ePt fullShare.right c k (sumFn m c)
  | 5 => oPt (py c) c k (outFn m c)
/-- What the unit of the x peer (`true`) or of the y peer (`false`) hands device `c`. -/
def bPay (c : Dev nD) (d : Bool) : sProp 𝕄 :=
  if d then iprop(∃ f : Buf (Elt F) ((px c : Thread nD τ).loc cc0_scratch2), ((px c : Thread nD τ).loc cc0_scratch2) ↦{fullShare} f)
  else iprop(∃ f : Buf (Elt F) ((py c : Thread nD τ).loc main_v1), ((py c : Thread nD τ).loc main_v1) ↦[oS c]{fullShare} f)

instance dPay_storable (c : Dev nD) (j k) : BI.Storable (upEmb : UEmb _ 𝕄) (dPay m c j k) := by
  unfold dPay; split <;> infer_instance
omit [FloatOps F] in
instance bPay_storable (c : Dev nD) (d) : BI.Storable (upEmb : UEmb _ 𝕄) (bPay (F := F) c d) := by
  unfold bPay; split <;> infer_instance

/-- One round: two duties of one unit at a barrier cell, one duty of the transfer's credit at a transfer cell. -/
def Rd : Rounds.Schedule (GSem nD τ sig) Bool 𝕄 where
  duties g r := if r = 0 ∧ g.1.2 = .tc then (match g.2 with | .reg _ => Finset.univ | .dma _ => {false}) else ∅
  unitless _ := False
  amount g _ _ := match g.2 with | .reg _ => 1 | .dma q => NJ (jOf q)
  payload g _ d := match g.2 with | .reg _ => bPay g.1.1 d | .dma q => dPay m g.1.1 (jOf q) (kOf q)
  amount_pos g _ _ _ := by
    rcases g with ⟨t, _ | q⟩
    · exact Nat.one_pos
    · exact NJ_pos _

instance Rd_payload_storable (g : GSem nD τ sig) (r : ℕ) (d : Bool) : BI.Storable (upEmb : UEmb _ 𝕄) ((Rd m).payload g r d) := by
  rcases g with ⟨t, _ | q⟩
  · exact bPay_storable t.1 d
  · exact dPay_storable m t.1 (jOf q) (kOf q)

theorem duties_bar (c : Dev nD) : (Rd m).duties (barCell c) 0 = Finset.univ := by
  dsimp only [Rd]; exact if_pos ⟨rfl, rfl⟩
theorem duties_dma (j : Fin 6) (c : Dev nD) (k : Fin 16) : (Rd m).duties (dCell j c k) 0 = {false} := by
  dsimp only [Rd]; exact if_pos ⟨rfl, rfl⟩
theorem duties_later (g : GSem nD τ sig) : ∀ r, 1 ≤ r → (Rd m).duties g r = ∅ := fun r hr => by
  dsimp only [Rd]; exact if_neg fun h => by omega
theorem amount_bar (c : Dev nD) (d : Bool) : (Rd m).amount (barCell c) 0 d = 1 := rfl
theorem amount_dma (j : Fin 6) (c : Dev nD) (k : Fin 16) (d : Bool) : (Rd m).amount (dCell j c k) 0 d = NJ j :=
  congrArg NJ (jOf_dsem j k)
theorem payload_bar (c : Dev nD) (d : Bool) : (Rd m).payload (barCell c) 0 d = bPay c d := rfl
theorem payload_dma (j : Fin 6) (c : Dev nD) (k : Fin 16) (d : Bool) : (Rd m).payload (dCell j c k) 0 d = dPay m c j k := by
  show dPay m c (jOf (dsem j k)) (kOf (dsem j k)) = _
  rw [jOf_dsem, kOf_dsem]

theorem expect_bar (c : Dev nD) : (Rd m).expect (barCell c) 0 = 2 := by
  unfold Schedule.expect Schedule.amountOf
  rw [duties_bar, Finset.sum_congr rfl fun d _ => amount_bar m c d, Finset.sum_const, Finset.card_univ, Fintype.card_bool, smul_eq_mul]
theorem expect_dma (j : Fin 6) (c : Dev nD) (k : Fin 16) : (Rd m).expect (dCell j c k) 0 = NJ j := by
  unfold Schedule.expect Schedule.amountOf; rw [duties_dma, Finset.sum_singleton, amount_dma]

/-- Both duties of a barrier cell. -/
theorem rest_bar (c : Dev nD) : bigSep ((Rd m).duties (barCell c) 0 \ ∅) (fun d => (Rd m).payload (barCell c) 0 d)
    = iprop(bPay c true ∗ bPay c false) := by
  rw [Finset.sdiff_empty, duties_bar, bigSep_univ_eq_bigSepL [true, false] (by decide) (by decide), bigSepL_cons_cons, bigSepL_singleton,
    payload_bar, payload_bar]
  rfl
/-- The duty of a transfer cell. -/
theorem rest_dma (j : Fin 6) (c : Dev nD) (k : Fin 16) :
    bigSep ((Rd m).duties (dCell j c k) 0 \ ∅) (fun d => (Rd m).payload (dCell j c k) 0 d) = dPay m c j k := by
  rw [Finset.sdiff_empty, duties_dma, bigSep_singleton, payload_dma]

/-! ## What a device owes at launch, and the levels -/

/-- A transfer's credit owed to each of a list of cells; the head of the list is paid first. -/
def owedOn (f : Fin 16 → GSem nD τ sig) : List (Fin 16) → CellTallies nD τ sig Unit
  | [] => 0
  | k :: l => owedOn f l + tallyAt (f k) () NB
/-- What is owed to the x peer's receive cells of a list of chunks. -/
def OX (c : Dev nD) (l : List (Fin 16)) : CellTallies nD τ sig Unit := owedOn (fun k => dCell 3 (px c) k) l
/-- What is owed to the y peer's receive cells of a list of chunks. -/
def OY (c : Dev nD) (l : List (Fin 16)) : CellTallies nD τ sig Unit := owedOn (fun k => dCell 5 (py c) k) l
/-- What a device owes at launch: the transfers to both peers, and one unit to each peer's barrier cell. -/
def O₀ (c : Dev nD) : CellTallies nD τ sig Unit :=
  ((OY c chunks + OX c chunks) + tallyAt (barCell (py c)) () 1) + tallyAt (barCell (px c)) () 1

/-- Every cell of a TensorCore has a level. -/
def L (g : GSem nD τ sig) : Finset Unit := if g.1.2 = .tc then {()} else ∅
/-- The level of a transfer cell: the receive cells lie above the barrier cells, those from the y peer highest. -/
def lvJ (j : Fin 6) : ℕ := if j = 3 then 2 else if j = 5 then 3 else 0
/-- The level of a cell. -/
def lv (g : GSem nD τ sig) (_ : Unit) : ℕ := match g.2 with | .reg _ => 1 | .dma q => lvJ (jOf q)

theorem L_of_ne (g : GSem nD τ sig) (h : g.1.2 ≠ .tc) : L g = ∅ := if_neg h
theorem mem_L (g : GSem nD τ sig) (h : g.1.2 = .tc) (u : Unit) : u ∈ L g := by
  unfold L; rw [if_pos h]; exact Finset.mem_singleton_self _
theorem lv_dma (j : Fin 6) (c : Dev nD) (k : Fin 16) (u : Unit) : lv (dCell j c k) u = lvJ j := congrArg lvJ (jOf_dsem j k)

theorem owedOn_pos {f : Fin 16 → GSem nD τ sig} {l : List (Fin 16)} {g : GSem nD τ sig} {u : Unit} (h : 0 < owedOn f l g u) : ∃ k, g = f k := by
  induction l with
  | nil => exact absurd h (Nat.lt_irrefl 0)
  | cons k l ih =>
    unfold owedOn at h
    rw [Pi.add_apply, Finsupp.add_apply, tallyAt_apply] at h
    by_cases hg : g = f k ∧ u = ()
    · exact ⟨k, hg.1⟩
    · rw [if_neg hg] at h; exact ih h

omit [FloatOps F] in
/-- A wait below everything owed. -/
theorem mayWait_below (c : Dev nD) (sm : SemLoc sig) (n : ℕ) (hn : lv ((c : Thread nD τ), sm) () ≤ n) (O : CellTallies nD τ sig Unit)
    (hO : ∀ (g : GSem nD τ sig) (u : Unit), 0 < O g u → g.1.2 = .tc ∧ n < lv g u) :
    (levAts L lv : sProp 𝕄) ⊢ MayWait (c : Thread nD τ) sm () O :=
  MayOwe.of_cut (L := L) (lev := lv) n
    (fun p hp => mem_L _ rfl _)
    (fun g u hg => mem_L g (hO g u hg).1 u)
    (fun p hp => by rw [Finset.mem_singleton.mp hp]; exact hn)
    (fun g u hg => (hO g u hg).2)

theorem OX_above {c : Dev nD} {l : List (Fin 16)} {g : GSem nD τ sig} {u : Unit} (h : 0 < OX c l g u) : g.1.2 = .tc ∧ lv g u = 2 := by
  obtain ⟨k, rfl⟩ := owedOn_pos h
  exact ⟨rfl, lv_dma 3 (px c) k u⟩
theorem OY_above {c : Dev nD} {l : List (Fin 16)} {g : GSem nD τ sig} {u : Unit} (h : 0 < OY c l g u) : g.1.2 = .tc ∧ lv g u = 3 := by
  obtain ⟨k, rfl⟩ := owedOn_pos h
  exact ⟨rfl, lv_dma 5 (py c) k u⟩
theorem OYX_above {c : Dev nD} {l l' : List (Fin 16)} {g : GSem nD τ sig} {u : Unit} (h : 0 < (OY c l + OX c l') g u) :
    g.1.2 = .tc ∧ 1 < lv g u := by
  rw [Pi.add_apply, Finsupp.add_apply] at h
  rcases Nat.eq_zero_or_pos (OY c l g u) with h0 | h0
  · rw [h0, Nat.zero_add] at h
    have := OX_above h; exact ⟨this.1, by rw [this.2]; decide⟩
  · have := OY_above h0; exact ⟨this.1, by rw [this.2]; decide⟩

omit [FloatOps F] in
/-- Waiting for a staged chunk. -/
theorem mayWait_in (c : Dev nD) (k : Fin 16) (l l' : List (Fin 16)) :
    (levAts L lv : sProp 𝕄) ⊢ MayWait (c : Thread nD τ) (.dma (dsem 0 k)) () (OY c l + OX c l') :=
  mayWait_below c _ 1 (by rw [lv_dma 0 c k]; decide) _ fun g u h => OYX_above h
omit [FloatOps F] in
/-- Waiting at the barrier. -/
theorem mayWait_bar (c : Dev nD) (l l' : List (Fin 16)) :
    (levAts L lv : sProp 𝕄) ⊢ MayWait (c : Thread nD τ) (.reg barS) () (OY c l + OX c l') :=
  mayWait_below c (.reg barS) 1 (Nat.le_refl 1) _ fun g u h => OYX_above h
omit [FloatOps F] in
/-- Waiting for the x peer's chunk. -/
theorem mayWait_x (c : Dev nD) (k : Fin 16) (l : List (Fin 16)) :
    (levAts L lv : sProp 𝕄) ⊢ MayWait (c : Thread nD τ) (.dma (dsem 3 k)) () (OY c l) :=
  mayWait_below c _ 2 (by rw [lv_dma 3 c k]; decide) _ fun g u h => ⟨(OY_above h).1, by rw [(OY_above h).2]; decide⟩

/-! ## The invariants -/

/-- The cells of a device: the barrier's, and those of the transfers. -/
abbrev CI : Type := Unit ⊕ (Fin 6 × Fin 16)
/-- The semaphore of a cell. -/
abbrev csem : CI → SemLoc sig := fun | .inl _ => .reg barS | .inr p => .dma (dsem p.1 p.2)
/-- A cell of a device. -/
abbrev kcell (ck : Dev nD × CI) : GSem nD τ sig := ((ck.1 : Thread nD τ), csem ck.2)

/-- Every cell's invariant, at the names `K`, and that every cell has reached its round. -/
def records (K : Dev nD × CI → ℕ) : sProp 𝕄 :=
  iprop((bigSep Finset.univ fun ck : Dev nD × CI => cellInv ER (Rd m) (K ck) (kcell ck))
    ∗ bigSep Finset.univ fun ck : Dev nD × CI => reached ER (kcell ck) 0)

instance records_persistent (K : Dev nD × CI → ℕ) : BI.Persistent (records m K) := by unfold records; infer_instance

theorem rec_inv (K : Dev nD × CI → ℕ) (ck : Dev nD × CI) : records m K ⊢ cellInv ER (Rd m) (K ck) (kcell ck) := by
  unfold records
  exact sep_elim_left.trans
    (bigSep_elim (Φ := fun ck : Dev nD × CI => (cellInv ER (Rd m) (K ck) (kcell ck) : sProp 𝕄)) (Finset.mem_univ ck))
theorem rec_reached (K : Dev nD × CI → ℕ) (ck : Dev nD × CI) : records m K ⊢ reached ER (kcell ck) 0 := by
  unfold records
  exact sep_elim_right.trans
    (bigSep_elim (Φ := fun ck : Dev nD × CI => (reached ER (kcell ck) 0 : sProp 𝕄)) (Finset.mem_univ ck))

end Cert.KProof

end
-- ==== Proof.Phases.lean ====
/-
The phases of one device, each proved at one chunk and carried over the list of the chunks.
-/
module

public import proofs.«01_k».proof.Proof.Sched
public import Idealize.ShloMosaic.Lib.Pipeline.BigSepL

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- No invariant of a loop is declared. -/
abbrev 𝒱₀ : Variants := Variants.none

/-- A program of device `c`, to a postcondition. -/
abbrev Wp (c : Dev nD) (P : KP F) (Q : PUnit → sProp 𝕄) : sProp 𝕄 :=
  wp frame (wpE (defs₀ (F := F)) 𝒱₀ (c : Thread nD τ) none) Set.univ P Q

/-! ## A phase over a list of chunks -/

/-- A phase that turns `A k` into `B k` at each chunk, with `R` at the chunks still to do, does so over a list. -/
theorem run_phase (c : Dev nD) (Γ : sProp 𝕄) [BI.Persistent Γ] (f : Fin 16 → KP F → KP F) (A B : Fin 16 → sProp 𝕄)
    (R : List (Fin 16) → sProp 𝕄) (Q : PUnit → sProp 𝕄)
    (h : ∀ k l K, iprop(Γ ∗ A k ∗ R (k :: l) ∗ ((B k ∗ R l) -∗ Wp c K Q)) ⊢ Wp c (f k K) Q) :
    ∀ l K, iprop(Γ ∗ bigSepL l A ∗ R l ∗ ((bigSepL l B ∗ R []) -∗ Wp c K Q)) ⊢ Wp c (run f l K) Q := by
  intro l
  induction l with
  | nil =>
    intro K
    rw [bigSepL_nil, bigSepL_nil]
    show _ ⊢ Wp c K Q
    iintro ⟨-, -, HR, HK⟩
    iapply HK
    isplitr; · iempintro
    iexact HR
  | cons k l ih =>
    intro K
    rw [bigSepL_cons', bigSepL_cons']
    show _ ⊢ Wp c (f k (run f l K)) Q
    iintro ⟨#HΓ, ⟨HA, HAs⟩, HR, HK⟩
    iapply (h k l (run f l K))
    isplitr; · iexact HΓ
    isplitl [HA]; · iexact HA
    isplitl [HR]; · iexact HR
    iintro ⟨HB, HR⟩
    iapply (ih K)
    isplitr; · iexact HΓ
    isplitl [HAs]; · iexact HAs
    isplitl [HR]; · iexact HR
    iintro ⟨HBs, HR⟩
    iapply HK
    isplitl [HB HBs]
    · isplitl [HB] <;> iassumption
    · iexact HR

variable (m : (ℓ : Loc nD τ sig) → Buf (Elt F) ℓ)

/-! ## What a transfer or a store leaves, as pieces -/

theorem cPt_land (c : Dev nD) (k : Fin 16) (fd : S16x64x1024.Idx → Elt F .f32) :
    ((cV k).view.loc (c : Thread nD τ) ↦[(cV k).view.set]{fullShare}
      ((cV k).view.write (Elt F) fd ((xV c k).view.read (Elt F) (xin m c)) Finset.univ) : sProp 𝕄) = cPt c k (chunkFn m c) :=
  pointsTo_congr (land_stage m c k fd)
theorem rPt_land (c : Dev nD) (k : Fin 16) (fd f : S16x64x512.Idx → Elt F .bf16) :
    ((bV rM k).view.loc (c : Thread nD τ) ↦[(bV rM k).view.set]{fullShare}
      ((bV rM k).view.write (Elt F) fd ((bV sM k).view.read (Elt F) f) Finset.univ) : sProp 𝕄) = rPt c k f :=
  pointsTo_congr (land_send k fd f)
theorem oPt_land (c : Dev nD) (k : Fin 16) (fd : S2048x512.Idx → Elt F .bf16) :
    ((oV c k).view.loc (c : Thread nD τ) ↦[(oV c k).view.set]{fullShare}
      ((oV c k).view.write (Elt F) fd ((bV eM k).view.read (Elt F) (sumFn m c)) Finset.univ) : sProp 𝕄) = oPt c c k (outFn m c) :=
  pointsTo_congr (land_own m c k fd)
theorem oPt_land_peer (c : Dev nD) (k : Fin 16) (fd : S2048x512.Idx → Elt F .bf16) :
    ((oV c k).view.loc (py c : Thread nD τ) ↦[(oV c k).view.set]{fullShare}
      ((oV c k).view.write (Elt F) fd ((bV eM k).view.read (Elt F) (sumFn m c)) Finset.univ) : sProp 𝕄) = oPt c (py c) k (outFn m (py c)) :=
  pointsTo_congr (land_peer m c k fd)
theorem sPt_store (c : Dev nD) (k : Fin 16) (f : S16x64x512.Idx → Elt F .bf16) :
    ((bV sM k).view.loc (c : Thread nD τ) ↦[(bV sM k).view.set]{fullShare}
      ((sM.access (rC k)).write (Elt F) f (k0_pay7 (ldO m c k)) Finset.univ) : sProp 𝕄) = sPt c k (sendFn m c) :=
  pointsTo_congr fun i hi => store_send m c k f i (sV_set k ▸ hi)
theorem ePt_keep (c : Dev nD) (k : Fin 16) (f : S16x64x512.Idx → Elt F .bf16) :
    ((bV eM k).view.loc (c : Thread nD τ) ↦[(bV eM k).view.set]{fullShare}
      ((eM.access (rC k)).write (Elt F) f (k0_pay7 (ldM m c k)) Finset.univ) : sProp 𝕄) = ePt fullShare c k (keepFn m c) :=
  pointsTo_congr fun i hi => store_keep m c k f i (eV_set k ▸ hi)
theorem ePt_sum (c : Dev nD) (k : Fin 16) (f : S16x64x512.Idx → Elt F .bf16) :
    ((bV eM k).view.loc (c : Thread nD τ) ↦[(bV eM k).view.set]{fullShare}
      ((eM.access (rC k)).write (Elt F) f (k0_pay52 (blockOf (keepFn m c) k) (blockOf (sendFn m (px c)) k)) Finset.univ) : sProp 𝕄)
      = ePt fullShare c k (sumFn m c) :=
  pointsTo_congr fun i hi => store_sum m c k f i (eV_set k ▸ hi)

/-- A chunk of the sums, as two halves of its share. -/
theorem ePt_halves (c : Dev nD) (k : Fin 16) (f : S16x64x512.Idx → Elt F .bf16) :
    ePt fullShare c k f ⊣⊢ iprop(ePt fullShare.left c k f ∗ ePt fullShare.right c k f) := by
  unfold ePt; exact pointsTo_share (PosShare.mem_left_op_right fullShare)

/-- The index set a load or store of a chunk touches is the chunk's. -/
theorem sAcc (k : Fin 16) : (sM.access (rC k)).set ⊆ (bV sM k).view.set := by
  rw [sV_set, ← rC_set]; exact (View.set_slice_whole cc0_scratch1 (rC k)).subset
theorem rAcc (k : Fin 16) : (rM.access (rC k)).set ⊆ (bV rM k).view.set := by
  rw [rV_set, ← rC_set]; exact (View.set_slice_whole cc0_scratch2 (rC k)).subset
theorem eAcc (k : Fin 16) : (eM.access (rC k)).set ⊆ (bV eM k).view.set := by
  rw [eV_set, ← rC_set]; exact (View.set_slice_whole cc0_scratch3 (rC k)).subset
theorem cAccO (c : Dev nD) (k : Fin 16) :
    (cM.access (Rect.unit (s := S16x64x1024) (offO k c) S1x64x512.size (offO_inb k c))).set ⊆ (cV k).view.set := by
  rw [cV_set]; exact (View.set_slice_whole cc0_scratch0 _).subset.trans (half_sub k _ _)
theorem cAccM (c : Dev nD) (k : Fin 16) :
    (cM.access (Rect.unit (s := S16x64x1024) (offM k c) S1x64x512.size (offM_inb k c))).set ⊆ (cV k).view.set := by
  rw [cV_set]; exact (View.set_slice_whole cc0_scratch0 _).subset.trans (half_sub k _ _)

/-! ## The credits -/

theorem creditC : ∀ k : Fin 16, (cV k).view.dmaCredit = NA := by decide +kernel
theorem creditS : ∀ k : Fin 16, (bV sM k).view.dmaCredit = NB := by decide +kernel
theorem creditR : ∀ k : Fin 16, (bV rM k).view.dmaCredit = NB := by decide +kernel
theorem creditE : ∀ k : Fin 16, (bV eM k).view.dmaCredit = NB := by decide +kernel
theorem creditO : ∀ (c : Dev nD) (k : Fin 16), (oV c k).view.dmaCredit = NB := by decide +kernel

/-! ## The operations of the body, on the pieces -/

/-- What a device owes, the cells it has waited on left open. -/
def owesE (c : Dev nD) (O : CellTallies nD τ sig Unit) : sProp 𝕄 := iprop(∃ W, owes (c : Thread nD τ) O W)

/-- A wait for the one transfer into a cell. -/
theorem wait_dma (j : Fin 6) (c : Dev nD) (k : Fin 16) (N : ℕ) (hN : N = NJ j) (κ : ℕ) (O : CellTallies nD τ sig Unit)
    {sp sp' : Space} {s : Shape} {e e' : EltTy} {src : Memref sig .tc sp s e'} {dst : Memref sig .tc sp' s e} {q : DmaSem sig} (hq : q = dsem j k)
    (hcr : dst.view.dmaCredit = N) {h₁ : src.view.WordExact} {h₂ : dst.view.WordExact} (K : PUnit → KP F) (Q : PUnit → sProp 𝕄) :
    iprop(cellInv ER (Rd m) κ (dCell j c k) ∗ cred (tallyAt (dCell j c k) () N) ∗ owesE c O
        ∗ MayWait (c : Thread nD τ) (.dma (dsem j k)) () O ∗ atPos ER (dCell j c k) 0 ∅ 0)
      ⊢ iprop(((owesE c O ∗ atPos ER (dCell j c k) 1 ∅ 0 ∗ dPay m c j k) -∗ Wp c (K ⟨⟩) Q)
        -∗ Wp c (.op (.waitDma2 q src dst h₁ h₂) K) Q) := by
  subst hq hcr
  unfold owesE
  iintro ⟨#Hinv, Hcr, ⟨%W, HO⟩, #HM, Hat⟩ HK
  iapply (Rounds.wp_wait_rest_token 𝒱₀ ER (Rd m) (c : Thread nD τ) none (κ := κ)
      (wpE_waitDma2_eq 𝒱₀ (c : Thread nD τ) none Set.univ) (Set.mem_univ _) () (O := O) (W := W) (R := 0) (m := 0) (T := ∅)
      (by rw [Nat.zero_add, expect_dma, hN])) $$ [Hcr HO Hat]
  · isplitr; · iexact Hinv
    isplitl [Hcr]; · iexact Hcr
    isplitl [HO]; · iexact HO
    isplitr; · iexact HM
    iexact Hat
  iintro ⟨HO, Hat, -, Hpay⟩
  ihave Hp := (Entails.of_eq (rest_dma m j c k)) $$ Hpay
  iapply HK
  isplitl [HO]
  · iexists _; iexact HO
  isplitl [Hat]; · iexact Hat
  iexact Hp

/-- A load of the half of a staged chunk that goes to the x peer. -/
theorem load_O (c : Dev nD) (k : Fin 16)
    {hl : (cM : Memref sig .tc .vmem S16x64x1024 .f32).view.LoadsAt (Rect.unit (s := S16x64x1024) (offO k c) S1x64x512.size (offO_inb k c)).toLoadRect}
    (K : (S1x64x512.Idx → Elt F .f32) → KP F) (Q : PUnit → sProp 𝕄) :
    cPt c k (chunkFn m c) ⊢ iprop((cPt c k (chunkFn m c) -∗ Wp c (K (ldO m c k)) Q)
      -∗ Wp c (.op (.load cM (Rect.unit (s := S16x64x1024) (offO k c) S1x64x512.size (offO_inb k c)).toLoadRect hl) K) Q) :=
  wp_load_rect 𝒱₀ (c : Thread nD τ) none Set.univ (m := cM) (hl := hl) (k := K) (cAccO c k)
/-- A load of the half of a staged chunk the device keeps. -/
theorem load_M (c : Dev nD) (k : Fin 16)
    {hl : (cM : Memref sig .tc .vmem S16x64x1024 .f32).view.LoadsAt (Rect.unit (s := S16x64x1024) (offM k c) S1x64x512.size (offM_inb k c)).toLoadRect}
    (K : (S1x64x512.Idx → Elt F .f32) → KP F) (Q : PUnit → sProp 𝕄) :
    cPt c k (chunkFn m c) ⊢ iprop((cPt c k (chunkFn m c) -∗ Wp c (K (ldM m c k)) Q)
      -∗ Wp c (.op (.load cM (Rect.unit (s := S16x64x1024) (offM k c) S1x64x512.size (offM_inb k c)).toLoadRect hl) K) Q) :=
  wp_load_rect 𝒱₀ (c : Thread nD τ) none Set.univ (m := cM) (hl := hl) (k := K) (cAccM c k)
/-- A load of a chunk of the send buffer. -/
theorem load_S (c : Dev nD) (k : Fin 16) (f : S16x64x512.Idx → Elt F .bf16)
    {hl : (sM : Memref sig .tc .vmem S16x64x512 .bf16).view.LoadsAt (rC k).toLoadRect}
    (K : (S1x64x512.Idx → Elt F .bf16) → KP F) (Q : PUnit → sProp 𝕄) :
    sPt c k f ⊢ iprop((sPt c k f -∗ Wp c (K (blockOf f k)) Q) -∗ Wp c (.op (.load sM (rC k).toLoadRect hl) K) Q) :=
  wp_load_rect 𝒱₀ (c : Thread nD τ) none Set.univ (m := sM) (hl := hl) (k := K) (sAcc k)
/-- A load of a chunk of the receive buffer. -/
theorem load_R (c : Dev nD) (k : Fin 16) (f : S16x64x512.Idx → Elt F .bf16)
    {hl : (rM : Memref sig .tc .vmem S16x64x512 .bf16).view.LoadsAt (rC k).toLoadRect}
    (K : (S1x64x512.Idx → Elt F .bf16) → KP F) (Q : PUnit → sProp 𝕄) :
    rPt c k f ⊢ iprop((rPt c k f -∗ Wp c (K (blockOf f k)) Q) -∗ Wp c (.op (.load rM (rC k).toLoadRect hl) K) Q) :=
  wp_load_rect 𝒱₀ (c : Thread nD τ) none Set.univ (m := rM) (hl := hl) (k := K) (rAcc k)
/-- A load of a chunk of the sums. -/
theorem load_E (c : Dev nD) (k : Fin 16) (f : S16x64x512.Idx → Elt F .bf16)
    {hl : (eM : Memref sig .tc .vmem S16x64x512 .bf16).view.LoadsAt (rC k).toLoadRect}
    (K : (S1x64x512.Idx → Elt F .bf16) → KP F) (Q : PUnit → sProp 𝕄) :
    ePt fullShare c k f ⊢ iprop((ePt fullShare c k f -∗ Wp c (K (blockOf f k)) Q) -∗ Wp c (.op (.load eM (rC k).toLoadRect hl) K) Q) :=
  wp_load_rect 𝒱₀ (c : Thread nD τ) none Set.univ (m := eM) (hl := hl) (k := K) (eAcc k)

/-- The store of a rounded half into the send buffer. -/
theorem store_S (c : Dev nD) (k : Fin 16) (f : S16x64x512.Idx → Elt F .bf16)
    {hx : ((sM : Memref sig .tc .vmem S16x64x512 .bf16).access (rC k)).Stores Finset.univ} {hm}
    (K : PUnit → KP F) (Q : PUnit → sProp 𝕄) :
    sPt c k f ⊢ iprop((sPt c k (sendFn m c) -∗ Wp c (K ⟨⟩) Q)
      -∗ Wp c (.op (.store sM (rC k) (k0_pay7 (ldO m c k)) Finset.univ hx hm) K) Q) := by
  rw [← sPt_store m c k f]
  exact wp_store 𝒱₀ (c : Thread nD τ) none Set.univ (m := sM) (hx := hx) (hm := hm) (k := K) (sAcc k)
/-- The store of a rounded half into the sums. -/
theorem store_K (c : Dev nD) (k : Fin 16) (f : S16x64x512.Idx → Elt F .bf16)
    {hx : ((eM : Memref sig .tc .vmem S16x64x512 .bf16).access (rC k)).Stores Finset.univ} {hm}
    (K : PUnit → KP F) (Q : PUnit → sProp 𝕄) :
    ePt fullShare c k f ⊢ iprop((ePt fullShare c k (keepFn m c) -∗ Wp c (K ⟨⟩) Q)
      -∗ Wp c (.op (.store eM (rC k) (k0_pay7 (ldM m c k)) Finset.univ hx hm) K) Q) := by
  rw [← ePt_keep m c k f]
  exact wp_store 𝒱₀ (c : Thread nD τ) none Set.univ (m := eM) (hx := hx) (hm := hm) (k := K) (eAcc k)
/-- The store of a sum. -/
theorem store_E (c : Dev nD) (k : Fin 16) (f : S16x64x512.Idx → Elt F .bf16)
    {hx : ((eM : Memref sig .tc .vmem S16x64x512 .bf16).access (rC k)).Stores Finset.univ} {hm}
    (K : PUnit → KP F) (Q : PUnit → sProp 𝕄) :
    ePt fullShare c k f ⊢ iprop((ePt fullShare c k (sumFn m c) -∗ Wp c (K ⟨⟩) Q)
      -∗ Wp c (.op (.store eM (rC k) (k0_pay52 (blockOf (keepFn m c) k) (blockOf (sendFn m (px c)) k)) Finset.univ hx hm) K) Q) := by
  rw [← ePt_sum m c k f]
  exact wp_store 𝒱₀ (c : Thread nD τ) none Set.univ (m := eM) (hx := hx) (hm := hm) (k := K) (eAcc k)

/-- The staging copy of chunk `k`. -/
theorem stage_copy (c : Dev nD) (k : Fin 16) (f : S16x64x1024.Idx → Elt F .f32) (κ : ℕ)
    {h₁ : (xV c k).view.WordExact} {h₂ : (cV k).view.WordExact}
    {h₃ : DmaTarget.Typed (nD := nD) (p := (.tc : Proc τ)) .hbm (.dma (semAt cc0_scratch4 k)) (.here (cV k))} (K : PUnit → KP F) (Q : PUnit → sProp 𝕄) :
    iprop(cellInv ER (Rd m) κ (dCell 0 c k) ∗ xPt c k (xin m c) ∗ cPt c k f ∗ dutyTok ER (dCell 0 c k) 0 false ∗ reached ER (dCell 0 c k) 0)
      ⊢ iprop((cred (tallyAt (dCell 0 c k) () NA) -∗ Wp c (K ⟨⟩) Q)
        -∗ Wp c (.op (.enqueueDma (xV c k) (.here (cV k)) (.dma (semAt cc0_scratch4 k)) h₁ h₂ h₃) K) Q) :=
  Rounds.wp_copy_pointsTo 𝒱₀ ER (Rd m) (c : Thread nD τ) none (src := xV c k) (dst := cV k) (sem := .dma (semAt cc0_scratch4 k))
    (fs := xin m c) (fd := f) (q := fullShare) (κ := κ) (d := false) (r := 0)
    (show false ∈ (Rd m).duties (dCell 0 c k) 0 by rw [duties_dma m 0 c k]; exact Finset.mem_singleton_self _) () NA (creditC k) (amount_dma m 0 c k false)
    (show _ ⊢ (Rd m).payload (dCell 0 c k) 0 false by rw [payload_dma m 0 c k]; exact sep_mono (Entails.of_eq (cPt_land m c k f)) .rfl)

/-- The transfer of chunk `k` to the x peer. -/
theorem send_x (c n : Dev nD) (hn : n = px c) (k : Fin 16) (f : S16x64x512.Idx → Elt F .bf16) (κ₁ κ₂ : ℕ) (O : CellTallies nD τ sig Unit)
    {hsc : (bV rM k : Memref sig (Dev.tc n : Thread nD τ).2.kind .vmem S64x512 .bf16).view.ref.isScScratch = false}
    {h₁ : (bV sM k).view.WordExact} {h₂ : (bV rM k).view.WordExact}
    {h₃ : DmaTarget.Typed .vmem (.dma (semAt cc0_scratch7 k))
      (.remote (Dev.tc n : Thread nD τ) (bV rM k : Memref sig .tc .vmem S64x512 .bf16) (.dma (semAt cc0_scratch6 k)) hsc)}
    (K : PUnit → KP F) (Q : PUnit → sProp 𝕄) :
    iprop(cellInv ER (Rd m) κ₁ (dCell 2 c k) ∗ cellInv ER (Rd m) κ₂ (dCell 3 (px c) k) ∗ sPt c k (sendFn m c) ∗ rPt (px c) k f
        ∗ owesE c (O + tallyAt (dCell 3 (px c) k) () NB)
        ∗ dutyTok ER (dCell 2 c k) 0 false ∗ reached ER (dCell 2 c k) 0
        ∗ dutyTok ER (dCell 3 (px c) k) 0 false ∗ reached ER (dCell 3 (px c) k) 0)
      ⊢ iprop(((cred (tallyAt (dCell 2 c k) () NB) ∗ owesE c O) -∗ Wp c (K ⟨⟩) Q)
        -∗ Wp c (.op (.enqueueDma (bV sM k) (.remote (Dev.tc n : Thread nD τ) (bV rM k) (.dma (semAt cc0_scratch6 k)) hsc)
            (.dma (semAt cc0_scratch7 k)) h₁ h₂ h₃) K) Q) := by
  subst hn
  unfold owesE sPt rPt
  iintro ⟨#H₁, #H₂, Hs, Hr, ⟨%W, HO⟩, Ht₁, #Hr₁, Ht₂, #Hr₂⟩ HK
  iapply (Rounds.wp_send_pointsTo 𝒱₀ ER (Rd m) (c : Thread nD τ) none (c' := (px c : Thread nD τ)) (src := bV sM k) (dst := bV rM k)
    (sS := .dma (semAt cc0_scratch6 k)) (sem := .dma (semAt cc0_scratch7 k)) (κ₁ := κ₁) (κ₂ := κ₂)
    (r₁ := 0) (r₂ := 0) (d₁ := false) (d₂ := false) (q := fullShare) (fs := sendFn m c) (fd := f) (k := K)
    (show false ∈ (Rd m).duties (dCell 2 c k) 0 by rw [duties_dma m 2 c k]; exact Finset.mem_singleton_self _)
    (show false ∈ (Rd m).duties (dCell 3 (px c) k) 0 by rw [duties_dma m 3 (px c) k]; exact Finset.mem_singleton_self _)
    () () NB (creditR k) (amount_dma m 2 c k false) (amount_dma m 3 (px c) k false) O rfl (W := W)
    (show _ ⊢ (Rd m).payload (dCell 2 c k) 0 false by rw [payload_dma m 2 c k]; exact BI.Entails.refl _)
    (show _ ⊢ (Rd m).payload (dCell 3 (px c) k) 0 false by
      rw [payload_dma m 3 (px c) k]; unfold dPay; rw [px_px]; exact Entails.of_eq (rPt_land (px c) k f (sendFn m c)))) $$ [Hs Hr HO Ht₁ Ht₂]
  · isplitr; · iexact H₁
    isplitr; · iexact H₂
    isplitl [Hs]; · iexact Hs
    isplitl [Hr]; · iexact Hr
    isplitl [HO]; · iexact HO
    isplitl [Ht₁]; · iexact Ht₁
    isplitr; · iexact Hr₁
    isplitl [Ht₂]; · iexact Ht₂
    iexact Hr₂
  iintro ⟨Hc, HO⟩
  iapply HK
  isplitl [Hc]; · iexact Hc
  iexists W; iexact HO

/-- The copy of a sum into the result of the device. -/
theorem copy_out (c : Dev nD) (k : Fin 16) (f : S2048x512.Idx → Elt F .bf16) (κ : ℕ)
    {h₁ : (bV eM k).view.WordExact} {h₂ : (oV c k).view.WordExact}
    {h₃ : DmaTarget.Typed (nD := nD) (p := (.tc : Proc τ)) .vmem (.dma (semAt cc0_scratch5 k)) (.here (oV c k))} (K : PUnit → KP F) (Q : PUnit → sProp 𝕄) :
    iprop(cellInv ER (Rd m) κ (dCell 1 c k) ∗ ePt fullShare.left c k (sumFn m c) ∗ oPt c c k f ∗ dutyTok ER (dCell 1 c k) 0 false ∗ reached ER (dCell 1 c k) 0)
      ⊢ iprop((cred (tallyAt (dCell 1 c k) () NB) -∗ Wp c (K ⟨⟩) Q)
        -∗ Wp c (.op (.enqueueDma (bV eM k) (.here (oV c k)) (.dma (semAt cc0_scratch5 k)) h₁ h₂ h₃) K) Q) :=
  Rounds.wp_copy_pointsTo 𝒱₀ ER (Rd m) (c : Thread nD τ) none (src := bV eM k) (dst := oV c k) (sem := .dma (semAt cc0_scratch5 k))
    (fs := sumFn m c) (fd := f) (q := fullShare.left) (κ := κ) (d := false) (r := 0)
    (show false ∈ (Rd m).duties (dCell 1 c k) 0 by rw [duties_dma m 1 c k]; exact Finset.mem_singleton_self _) () NB (creditO c k) (amount_dma m 1 c k false)
    (show _ ⊢ (Rd m).payload (dCell 1 c k) 0 false by rw [payload_dma m 1 c k]; exact sep_mono (Entails.of_eq (oPt_land m c k f)) .rfl)

/-- The transfer of a sum into the result of the y peer. -/
theorem send_y (c n : Dev nD) (hn : n = py c) (k : Fin 16) (f : S2048x512.Idx → Elt F .bf16) (κ₁ κ₂ : ℕ) (O : CellTallies nD τ sig Unit)
    {hsc : (oV c k : Memref sig (Dev.tc n : Thread nD τ).2.kind .hbm S64x512 .bf16).view.ref.isScScratch = false}
    {h₁ : (bV eM k).view.WordExact} {h₂ : (oV c k).view.WordExact}
    {h₃ : DmaTarget.Typed .vmem (.dma (semAt cc0_scratch9 k))
      (.remote (Dev.tc n : Thread nD τ) (oV c k : Memref sig .tc .hbm S64x512 .bf16) (.dma (semAt cc0_scratch8 k)) hsc)}
    (K : PUnit → KP F) (Q : PUnit → sProp 𝕄) :
    iprop(cellInv ER (Rd m) κ₁ (dCell 4 c k) ∗ cellInv ER (Rd m) κ₂ (dCell 5 (py c) k) ∗ ePt fullShare.right c k (sumFn m c) ∗ oPt c (py c) k f
        ∗ owesE c (O + tallyAt (dCell 5 (py c) k) () NB)
        ∗ dutyTok ER (dCell 4 c k) 0 false ∗ reached ER (dCell 4 c k) 0
        ∗ dutyTok ER (dCell 5 (py c) k) 0 false ∗ reached ER (dCell 5 (py c) k) 0)
      ⊢ iprop(((cred (tallyAt (dCell 4 c k) () NB) ∗ owesE c O) -∗ Wp c (K ⟨⟩) Q)
        -∗ Wp c (.op (.enqueueDma (bV eM k) (.remote (Dev.tc n : Thread nD τ) (oV c k) (.dma (semAt cc0_scratch8 k)) hsc)
            (.dma (semAt cc0_scratch9 k)) h₁ h₂ h₃) K) Q) := by
  subst hn
  unfold owesE ePt oPt
  iintro ⟨#H₁, #H₂, Hs, Hr, ⟨%W, HO⟩, Ht₁, #Hr₁, Ht₂, #Hr₂⟩ HK
  iapply (Rounds.wp_send_pointsTo 𝒱₀ ER (Rd m) (c : Thread nD τ) none (c' := (py c : Thread nD τ)) (src := bV eM k) (dst := oV c k)
    (sS := .dma (semAt cc0_scratch8 k)) (sem := .dma (semAt cc0_scratch9 k)) (κ₁ := κ₁) (κ₂ := κ₂)
    (r₁ := 0) (r₂ := 0) (d₁ := false) (d₂ := false) (q := fullShare.right) (fs := sumFn m c) (fd := f) (k := K)
    (show false ∈ (Rd m).duties (dCell 4 c k) 0 by rw [duties_dma m 4 c k]; exact Finset.mem_singleton_self _)
    (show false ∈ (Rd m).duties (dCell 5 (py c) k) 0 by rw [duties_dma m 5 (py c) k]; exact Finset.mem_singleton_self _)
    () () NB (creditO c k) (amount_dma m 4 c k false) (amount_dma m 5 (py c) k false) O rfl (W := W)
    (show _ ⊢ (Rd m).payload (dCell 4 c k) 0 false by rw [payload_dma m 4 c k]; exact BI.Entails.refl _)
    (show _ ⊢ (Rd m).payload (dCell 5 (py c) k) 0 false by
      rw [payload_dma m 5 (py c) k]; unfold dPay; rw [py_py]; exact Entails.of_eq (oPt_land_peer m c k f))) $$ [Hs Hr HO Ht₁ Ht₂]
  · isplitr; · iexact H₁
    isplitr; · iexact H₂
    isplitl [Hs]; · iexact Hs
    isplitl [Hr]; · iexact Hr
    isplitl [HO]; · iexact HO
    isplitl [Ht₁]; · iexact Ht₁
    isplitr; · iexact Hr₁
    isplitl [Ht₂]; · iexact Ht₂
    iexact Hr₂
  iintro ⟨Hc, HO⟩
  iapply HK
  isplitl [Hc]; · iexact Hc
  iexists W; iexact HO

/-! ## Staging -/

variable (K₀ : Dev nD × CI → ℕ)

/-- What stays true all along: the invariants and the levels. -/
def env : sProp 𝕄 := iprop(records m K₀ ∗ levAts L lv)

instance env_persistent : BI.Persistent (env m K₀) := by unfold env; infer_instance

/-- That a device stands before the round of one of its cells. -/
abbrev before (j : Fin 6) (c : Dev nD) (k : Fin 16) : sProp 𝕄 := atPos ER (dCell j c k) 0 ∅ 0
/-- That a device stands after the round of one of its cells. -/
abbrev after (j : Fin 6) (c : Dev nD) (k : Fin 16) : sProp 𝕄 := atPos ER (dCell j c k) 1 ∅ 0
/-- The right to signal a transfer cell. -/
abbrev tok (j : Fin 6) (c : Dev nD) (k : Fin 16) : sProp 𝕄 := dutyTok ER (dCell j c k) 0 false
/-- A credit to wait with. -/
abbrev crd (j : Fin 6) (c : Dev nD) (k : Fin 16) (N : ℕ) : sProp 𝕄 := cred (tallyAt (dCell j c k) () N)

/-- Chunk `k` before its staging starts. -/
def stageA (c : Dev nD) (k : Fin 16) : sProp 𝕄 := iprop(xPt c k (xin m c) ∗ (∃ f, cPt c k f) ∗ tok 0 c k)
/-- Chunk `k` while it is staged. -/
def stageB (c : Dev nD) (k : Fin 16) : sProp 𝕄 := crd 0 c k NA

theorem stage_step (c : Dev nD) (Q : PUnit → sProp 𝕄) (k : Fin 16) (l : List (Fin 16)) (K : KP F) :
    iprop(env m K₀ ∗ stageA m c k ∗ emp ∗ ((stageB c k ∗ emp) -∗ Wp c K Q)) ⊢ Wp c (stStage c k K) Q := by
  unfold env stageA stageB
  iintro ⟨⟨#HI, #HL⟩, ⟨Hx, ⟨%f, Hc⟩, Ht⟩, -, HK⟩
  ihave #Hinv := (rec_inv m K₀ (c, .inr (0, k))) $$ HI
  ihave #Hr := (rec_reached m K₀ (c, .inr (0, k))) $$ HI
  iapply (stage_copy m c k f (K₀ (c, .inr (0, k))) (fun _ => K) Q) $$ [Hx Hc Ht]
  · isplitr; · iexact Hinv
    isplitl [Hx]; · iexact Hx
    isplitl [Hc]; · iexact Hc
    isplitl [Ht]; · iexact Ht
    iexact Hr
  iintro Hcr
  iapply HK
  isplitl [Hcr]; · iexact Hcr
  iempintro

/-! ## Sending to the x peer -/

/-- Chunk `k` before its half is sent. -/
def sendA (c : Dev nD) (k : Fin 16) : sProp 𝕄 :=
  iprop(stageB c k ∗ before 0 c k ∗ (∃ f, sPt c k f) ∗ (∃ f, rPt (px c) k f) ∗ tok 2 c k ∗ tok 3 (px c) k)
/-- Chunk `k` while its half is sent. -/
def sendB (c : Dev nD) (k : Fin 16) : sProp 𝕄 :=
  iprop(after 0 c k ∗ xPt c k (xin m c) ∗ cPt c k (chunkFn m c) ∗ crd 2 c k NB)

theorem send_step (c : Dev nD) (Q : PUnit → sProp 𝕄) (k : Fin 16) (l : List (Fin 16)) (K : KP F) :
    iprop(env m K₀ ∗ sendA c k ∗ owesE c (OY c chunks + OX c (k :: l)) ∗ ((sendB m c k ∗ owesE c (OY c chunks + OX c l)) -∗ Wp c K Q))
      ⊢ Wp c (stSend c k K) Q := by
  unfold env sendA sendB stageB
  iintro ⟨⟨#HI, #HL⟩, ⟨Hcr, Hat, ⟨%f, Hs⟩, ⟨%g, Hr⟩, Ht₁, Ht₂⟩, HO, HK⟩
  ihave #H₀ := (rec_inv m K₀ (c, .inr (0, k))) $$ HI
  ihave #H₁ := (rec_inv m K₀ (c, .inr (2, k))) $$ HI
  ihave #H₂ := (rec_inv m K₀ (px c, .inr (3, k))) $$ HI
  ihave #R₁ := (rec_reached m K₀ (c, .inr (2, k))) $$ HI
  ihave #R₂ := (rec_reached m K₀ (px c, .inr (3, k))) $$ HI
  iapply (wait_dma m 0 c k NA rfl (K₀ (c, .inr (0, k))) (OY c chunks + OX c (k :: l)) rfl (creditC k)) $$ [Hcr Hat HO]
  · isplitr; · iexact H₀
    isplitl [Hcr]; · iexact Hcr
    isplitl [HO]; · iexact HO
    isplitr; · iapply (mayWait_in c k chunks (k :: l)); iexact HL
    iexact Hat
  unfold dPay
  iintro ⟨HO, Hat, Hc, Hx⟩
  iapply (load_O m c k) $$ Hc; iintro Hc
  iapply (load_S c k f) $$ Hs; iintro Hs
  iapply (store_S m c k f) $$ Hs; iintro Hs
  ihave HO := (Entails.of_eq (congrArg (owesE c) (show OY c chunks + OX c (k :: l) = (OY c chunks + OX c l) + tallyAt (dCell 3 (px c) k) () NB
    from (add_assoc _ _ _).symm))) $$ HO
  iapply (send_x m c (devX c) (devX_eq c) k g (K₀ (c, .inr (2, k))) (K₀ (px c, .inr (3, k))) (OY c chunks + OX c l)) $$ [Hs Hr HO Ht₁ Ht₂]
  · isplitr; · iexact H₁
    isplitr; · iexact H₂
    isplitl [Hs]; · iexact Hs
    isplitl [Hr]; · iexact Hr
    isplitl [HO]; · iexact HO
    isplitl [Ht₁]; · iexact Ht₁
    isplitr; · iexact R₁
    isplitl [Ht₂]; · iexact Ht₂
    iexact R₂
  iintro ⟨Hcr, HO⟩
  iapply HK
  isplitr [HO]
  · isplitl [Hat]; · iexact Hat
    isplitl [Hx]; · iexact Hx
    isplitl [Hc]; · iexact Hc
    iexact Hcr
  iexact HO

/-! ## Keeping the other half -/

/-- Chunk `k` before the device rounds its own half. -/
def keepA (c : Dev nD) (k : Fin 16) : sProp 𝕄 := iprop(cPt c k (chunkFn m c) ∗ (∃ f, ePt fullShare c k f))
/-- Chunk `k` once the device has rounded its own half. -/
def keepB (c : Dev nD) (k : Fin 16) : sProp 𝕄 := iprop(cPt c k (chunkFn m c) ∗ ePt fullShare c k (keepFn m c))

theorem keep_step (c : Dev nD) (Q : PUnit → sProp 𝕄) (k : Fin 16) (l : List (Fin 16)) (K : KP F) :
    iprop(env m K₀ ∗ keepA m c k ∗ emp ∗ ((keepB m c k ∗ emp) -∗ Wp c K Q)) ⊢ Wp c (stKeep c k K) Q := by
  unfold keepA keepB
  iintro ⟨-, ⟨Hc, ⟨%f, He⟩⟩, -, HK⟩
  iapply (load_M m c k) $$ Hc; iintro Hc
  iapply (load_E c k f) $$ He; iintro He
  iapply (store_K m c k f) $$ He; iintro He
  iapply HK
  isplitr []
  · isplitl [Hc]; · iexact Hc
    iexact He
  iempintro

/-! ## Adding, and filling both results -/

/-- Chunk `k` before the x peer's half is waited for. -/
def sumA (c : Dev nD) (k : Fin 16) : sProp 𝕄 :=
  iprop(crd 3 c k NB ∗ before 3 c k ∗ ePt fullShare c k (keepFn m c) ∗ (∃ f, oPt c c k f) ∗ (∃ f, oPt c (py c) k f)
    ∗ tok 1 c k ∗ tok 4 c k ∗ tok 5 (py c) k)
/-- Chunk `k` while its sum goes to both results. -/
def sumB (c : Dev nD) (k : Fin 16) : sProp 𝕄 :=
  iprop(after 3 c k ∗ rPt c k (sendFn m (px c)) ∗ crd 1 c k NB ∗ crd 4 c k NB)

theorem sum_step (c : Dev nD) (Q : PUnit → sProp 𝕄) (k : Fin 16) (l : List (Fin 16)) (K : KP F) :
    iprop(env m K₀ ∗ sumA m c k ∗ owesE c (OY c (k :: l)) ∗ ((sumB m c k ∗ owesE c (OY c l)) -∗ Wp c K Q))
      ⊢ Wp c (stSum c k K) Q := by
  unfold env sumA sumB
  iintro ⟨⟨#HI, #HL⟩, ⟨Hcr, Hat, He, ⟨%f, Ho⟩, ⟨%g, Hp⟩, Ht₁, Ht₄, Ht₅⟩, HO, HK⟩
  ihave #H₃ := (rec_inv m K₀ (c, .inr (3, k))) $$ HI
  ihave #H₁ := (rec_inv m K₀ (c, .inr (1, k))) $$ HI
  ihave #H₄ := (rec_inv m K₀ (c, .inr (4, k))) $$ HI
  ihave #H₅ := (rec_inv m K₀ (py c, .inr (5, k))) $$ HI
  ihave #R₁ := (rec_reached m K₀ (c, .inr (1, k))) $$ HI
  ihave #R₄ := (rec_reached m K₀ (c, .inr (4, k))) $$ HI
  ihave #R₅ := (rec_reached m K₀ (py c, .inr (5, k))) $$ HI
  iapply (wait_dma m 3 c k NB rfl (K₀ (c, .inr (3, k))) (OY c (k :: l)) rfl (creditR k)) $$ [Hcr Hat HO]
  · isplitr; · iexact H₃
    isplitl [Hcr]; · iexact Hcr
    isplitl [HO]; · iexact HO
    isplitr; · iapply (mayWait_x c k (k :: l)); iexact HL
    iexact Hat
  unfold dPay
  iintro ⟨HO, Hat, Hr⟩
  iapply (load_E c k (keepFn m c)) $$ He; iintro He
  iapply (load_R c k (sendFn m (px c))) $$ Hr; iintro Hr
  iapply (load_E c k (keepFn m c)) $$ He; iintro He
  iapply (store_E m c k (keepFn m c)) $$ He; iintro He
  ihave ⟨HeL, HeR⟩ := (ePt_halves c k (sumFn m c)).1 $$ He
  iapply (copy_out m c k f (K₀ (c, .inr (1, k)))) $$ [HeL Ho Ht₁]
  · isplitr; · iexact H₁
    isplitl [HeL]; · iexact HeL
    isplitl [Ho]; · iexact Ho
    isplitl [Ht₁]; · iexact Ht₁
    iexact R₁
  iintro Hc₁
  ihave HO := (Entails.of_eq (congrArg (owesE c) (show OY c (k :: l) = OY c l + tallyAt (dCell 5 (py c) k) () NB from rfl))) $$ HO
  iapply (send_y m c (devY c) (devY_eq c) k g (K₀ (c, .inr (4, k))) (K₀ (py c, .inr (5, k))) (OY c l)) $$ [HeR Hp HO Ht₄ Ht₅]
  · isplitr; · iexact H₄
    isplitr; · iexact H₅
    isplitl [HeR]; · iexact HeR
    isplitl [Hp]; · iexact Hp
    isplitl [HO]; · iexact HO
    isplitl [Ht₄]; · iexact Ht₄
    isplitr; · iexact R₄
    isplitl [Ht₅]; · iexact Ht₅
    iexact R₅
  iintro ⟨Hc₄, HO⟩
  iapply HK
  isplitr [HO]
  · isplitl [Hat]; · iexact Hat
    isplitl [Hr]; · iexact Hr
    isplitl [Hc₁]; · iexact Hc₁
    iexact Hc₄
  iexact HO

/-! ## Receiving from the y peer -/

/-- Chunk `k` of the y peer before it is waited for. -/
def recvA (c : Dev nD) (k : Fin 16) : sProp 𝕄 := iprop(crd 5 c k NB ∗ before 5 c k)
/-- Chunk `k` of the y peer once it is there. -/
def recvB (c : Dev nD) (k : Fin 16) : sProp 𝕄 := iprop(after 5 c k ∗ oPt (py c) c k (outFn m c))

theorem recv_step (c : Dev nD) (Q : PUnit → sProp 𝕄) (k : Fin 16) (l : List (Fin 16)) (K : KP F) :
    iprop(env m K₀ ∗ recvA c k ∗ owesE c 0 ∗ ((recvB m c k ∗ owesE c 0) -∗ Wp c K Q)) ⊢ Wp c (stRecv c k K) Q := by
  unfold env recvA recvB
  iintro ⟨⟨#HI, #HL⟩, ⟨Hcr, Hat⟩, HO, HK⟩
  ihave #H₅ := (rec_inv m K₀ (c, .inr (5, k))) $$ HI
  iapply (wait_dma m 5 c k NB rfl (K₀ (c, .inr (5, k))) 0 rfl (creditO c k)) $$ [Hcr Hat HO]
  · isplitr; · iexact H₅
    isplitl [Hcr]; · iexact Hcr
    isplitl [HO]; · iexact HO
    isplitr; · rw [MayWait_zero]; iempintro
    iexact Hat
  unfold dPay
  iintro ⟨HO, Hat, Ho⟩
  iapply HK
  isplitr [HO]
  · isplitl [Hat]; · iexact Hat
    iexact Ho
  iexact HO

/-! ## Draining -/

/-- Chunk `k` before its three copies out are waited for. -/
def drainA (c : Dev nD) (k : Fin 16) : sProp 𝕄 :=
  iprop(crd 1 c k NB ∗ before 1 c k ∗ crd 4 c k NB ∗ before 4 c k ∗ crd 2 c k NB ∗ before 2 c k)
/-- Chunk `k` after. -/
def drainB (c : Dev nD) (k : Fin 16) : sProp 𝕄 :=
  iprop(after 1 c k ∗ after 4 c k ∗ after 2 c k ∗ oPt c c k (outFn m c) ∗ ePt fullShare c k (sumFn m c) ∗ sPt c k (sendFn m c))

theorem drain_step (c : Dev nD) (Q : PUnit → sProp 𝕄) (k : Fin 16) (l : List (Fin 16)) (K : KP F) :
    iprop(env m K₀ ∗ drainA c k ∗ owesE c 0 ∗ ((drainB m c k ∗ owesE c 0) -∗ Wp c K Q)) ⊢ Wp c (stDrain c k K) Q := by
  unfold env drainA drainB
  iintro ⟨⟨#HI, #HL⟩, ⟨Hc₁, Ha₁, Hc₄, Ha₄, Hc₂, Ha₂⟩, HO, HK⟩
  ihave #H₁ := (rec_inv m K₀ (c, .inr (1, k))) $$ HI
  ihave #H₄ := (rec_inv m K₀ (c, .inr (4, k))) $$ HI
  ihave #H₂ := (rec_inv m K₀ (c, .inr (2, k))) $$ HI
  iapply (wait_dma m 1 c k NB rfl (K₀ (c, .inr (1, k))) 0 rfl (creditO c k)) $$ [Hc₁ Ha₁ HO]
  · isplitr; · iexact H₁
    isplitl [Hc₁]; · iexact Hc₁
    isplitl [HO]; · iexact HO
    isplitr; · rw [MayWait_zero]; iempintro
    iexact Ha₁
  iintro ⟨HO, Ha₁, Hp₁⟩
  iapply (wait_dma m 4 c k NB rfl (K₀ (c, .inr (4, k))) 0 rfl (creditE k)) $$ [Hc₄ Ha₄ HO]
  · isplitr; · iexact H₄
    isplitl [Hc₄]; · iexact Hc₄
    isplitl [HO]; · iexact HO
    isplitr; · rw [MayWait_zero]; iempintro
    iexact Ha₄
  iintro ⟨HO, Ha₄, HeR⟩
  iapply (wait_dma m 2 c k NB rfl (K₀ (c, .inr (2, k))) 0 rfl (creditS k)) $$ [Hc₂ Ha₂ HO]
  · isplitr; · iexact H₂
    isplitl [Hc₂]; · iexact Hc₂
    isplitl [HO]; · iexact HO
    isplitr; · rw [MayWait_zero]; iempintro
    iexact Ha₂
  iintro ⟨HO, Ha₂, Hs⟩
  unfold dPay
  icases Hp₁ with ⟨Ho, HeL⟩
  iapply HK
  isplitr [HO]
  · isplitl [Ha₁]; · iexact Ha₁
    isplitl [Ha₄]; · iexact Ha₄
    isplitl [Ha₂]; · iexact Ha₂
    isplitl [Ho]; · iexact Ho
    isplitl [HeL HeR]
    · iapply (ePt_halves c k (sumFn m c)).2
      isplitl [HeL]; · iexact HeL
      iexact HeR
    iexact Hs
  iexact HO

/-! ## The handshake -/

/-- What a device brings to the handshake. -/
def barA (c : Dev nD) : sProp 𝕄 :=
  iprop(atPos ER (barCell c) 0 ∅ 0 ∗ cred (tallyAt (barCell c) () 2) ∗ dutyTok ER (barCell (px c)) 0 true ∗ dutyTok ER (barCell (py c)) 0 false
    ∗ (∃ f : Buf (Elt F) ((c : Thread nD τ).loc cc0_scratch2), ((c : Thread nD τ).loc cc0_scratch2) ↦{fullShare} f)
    ∗ (∃ f : Buf (Elt F) ((c : Thread nD τ).loc main_v1), ((c : Thread nD τ).loc main_v1) ↦[oS (py c)]{fullShare} f))
/-- What it takes from the handshake. -/
def barB (c : Dev nD) : sProp 𝕄 :=
  iprop(atPos ER (barCell c) 1 ∅ 0
    ∗ (∃ f : Buf (Elt F) ((px c : Thread nD τ).loc cc0_scratch2), ((px c : Thread nD τ).loc cc0_scratch2) ↦{fullShare} f)
    ∗ (∃ f : Buf (Elt F) ((py c : Thread nD τ).loc main_v1), ((py c : Thread nD τ).loc main_v1) ↦[oS c]{fullShare} f))

theorem bar_step (c : Dev nD) (Q : PUnit → sProp 𝕄) (K : KP F) :
    iprop(env m K₀ ∗ barA c ∗ owesE c (O₀ c) ∗ ((barB c ∗ owesE c (OY c chunks + OX c chunks)) -∗ Wp c K Q)) ⊢ Wp c (stBarrier c K) Q := by
  unfold env barA barB owesE O₀ stBarrier
  simp only [dev1_eq c, dev2_eq c]
  iintro ⟨⟨#HI, #HL⟩, ⟨Hat, Hcr, Htx, Hty, ⟨%f, Hr⟩, ⟨%g, Ho⟩⟩, ⟨%W, HO⟩, HK⟩
  ihave #H₀ := (rec_inv m K₀ (c, .inl ())) $$ HI
  ihave #Hx := (rec_inv m K₀ (px c, .inl ())) $$ HI
  ihave #Hy := (rec_inv m K₀ (py c, .inl ())) $$ HI
  ihave #Rx := (rec_reached m K₀ (px c, .inl ())) $$ HI
  ihave #Ry := (rec_reached m K₀ (py c, .inl ())) $$ HI
  iapply (Rounds.wp_signal 𝒱₀ ER (Rd m) (c : Thread nD τ) none (dst := (px c : Thread nD τ)) (κ := K₀ (px c, .inl ()))
      (d := true) (by rw [duties_bar]; exact Finset.mem_univ _) ((amount_bar m (px c) true).trans (by decide)) ()
      ((OY c chunks + OX c chunks) + tallyAt (barCell (py c)) () 1) rfl) $$ [HO Htx Hr]
  · isplitr; · iexact Hx
    isplitl [HO]; · iexact HO
    isplitl [Htx]; · iexact Htx
    isplitl [Hr]
    · rw [payload_bar]; unfold bPay; rw [if_pos rfl, px_px]; iexists f; iexact Hr
    iexact Rx
  iintro HO
  iapply (Rounds.wp_signal 𝒱₀ ER (Rd m) (c : Thread nD τ) none (dst := (py c : Thread nD τ)) (κ := K₀ (py c, .inl ()))
      (d := false) (by rw [duties_bar]; exact Finset.mem_univ _) ((amount_bar m (py c) false).trans (by decide)) ()
      (OY c chunks + OX c chunks) rfl) $$ [HO Hty Ho]
  · isplitr; · iexact Hy
    isplitl [HO]; · iexact HO
    isplitl [Hty]; · iexact Hty
    isplitl [Ho]
    · rw [payload_bar]; unfold bPay; rw [if_neg Bool.false_ne_true, py_py]; iexists g; iexact Ho
    iexact Ry
  iintro HO
  iapply (Rounds.wp_wait_rest_token 𝒱₀ ER (Rd m) (c : Thread nD τ) none (κ := K₀ (c, .inl ()))
      (wpE_semWait_eq 𝒱₀ (c : Thread nD τ) none Set.univ) (Set.mem_univ _) () (O := OY c chunks + OX c chunks) (W := W) (R := 0) (m := 0) (T := ∅)
      (by rw [expect_bar])) $$ [Hcr HO Hat]
  · isplitr; · iexact H₀
    isplitl [Hcr]; · iexact Hcr
    isplitl [HO]; · iexact HO
    isplitr; · iapply (mayWait_bar c chunks chunks); iexact HL
    iexact Hat
  iintro ⟨HO, Hat, -, Hpay⟩
  ihave Hp := (Entails.of_eq (rest_bar m c)) $$ Hpay
  unfold bPay
  rw [if_pos rfl, if_neg Bool.false_ne_true]
  icases Hp with ⟨Hx, Hy⟩
  iapply HK
  isplitr [HO]
  · isplitl [Hat]; · iexact Hat
    isplitl [Hx]; · iexact Hx
    iexact Hy
  iexists _; iexact HO

end Cert.KProof

end
-- ==== Proof.Body.lean ====
/-
The body of one device: the phases put together, from whole buffers to whole buffers.
-/
module

public import proofs.«01_k».proof.Proof.Phases
public import Idealize.ShloMosaic.Lib.Ring

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- One piece for each chunk. -/
abbrev All (Φ : Fin 16 → sProp 𝕄) : sProp 𝕄 := bigSep Finset.univ Φ

/-- A phase over all chunks. -/
theorem run_all (c : Dev nD) (Γ : sProp 𝕄) [BI.Persistent Γ] (f : Fin 16 → KP F → KP F) (A B : Fin 16 → sProp 𝕄)
    (R : List (Fin 16) → sProp 𝕄) (Q : PUnit → sProp 𝕄)
    (h : ∀ k l K, iprop(Γ ∗ A k ∗ R (k :: l) ∗ ((B k ∗ R l) -∗ Wp c K Q)) ⊢ Wp c (f k K) Q) (K : KP F) :
    iprop(Γ ∗ All A ∗ R chunks ∗ ((All B ∗ R []) -∗ Wp c K Q)) ⊢ Wp c (run f chunks K) Q := by
  unfold All
  rw [bigSep_univ_eq_bigSepL chunks (by decide) (by decide), bigSep_univ_eq_bigSepL chunks (by decide) (by decide)]
  exact run_phase c Γ f A B R Q h chunks K

variable (m : (ℓ : Loc nD τ sig) → Buf (Elt F) ℓ) (K₀ : Dev nD × CI → ℕ)

/-- What a device holds of the protocol at the start. -/
def ghost (c : Dev nD) : sProp 𝕄 :=
  iprop((atPos ER (barCell c) 0 ∅ 0 ∗ cred (tallyAt (barCell c) () 2) ∗ dutyTok ER (barCell (px c)) 0 true ∗ dutyTok ER (barCell (py c)) 0 false)
    ∗ (All (before 0 c) ∗ All (before 1 c) ∗ All (before 2 c) ∗ All (before 3 c) ∗ All (before 4 c) ∗ All (before 5 c))
    ∗ (All (tok 0 c) ∗ All (tok 1 c) ∗ All (tok 2 c) ∗ All (tok 3 (px c)) ∗ All (tok 4 c) ∗ All (tok 5 (py c)))
    ∗ All (fun k => crd 3 c k NB) ∗ All (fun k => crd 5 c k NB))

/-- What it holds of memory at the start. -/
def held (c : Dev nD) : sProp 𝕄 :=
  iprop(All (fun k => xPt c k (xin m c)) ∗ All (fun k => iprop(∃ f, cPt c k f)) ∗ All (fun k => iprop(∃ f, sPt c k f))
    ∗ (∃ f : Buf (Elt F) ((c : Thread nD τ).loc cc0_scratch2), ((c : Thread nD τ).loc cc0_scratch2) ↦{fullShare} f)
    ∗ All (fun k => iprop(∃ f, ePt fullShare c k f)) ∗ All (fun k => iprop(∃ f, oPt c c k f))
    ∗ (∃ f : Buf (Elt F) ((c : Thread nD τ).loc main_v1), ((c : Thread nD τ).loc main_v1) ↦[oS (py c)]{fullShare} f))

/-- Where it stands at the end. -/
def passed (c : Dev nD) : sProp 𝕄 :=
  iprop(atPos ER (barCell c) 1 ∅ 0
    ∗ All (after 0 c) ∗ All (after 1 c) ∗ All (after 2 c) ∗ All (after 3 c) ∗ All (after 4 c) ∗ All (after 5 c))

/-- What it holds of memory at the end. -/
def filled (c : Dev nD) : sProp 𝕄 :=
  iprop(All (fun k => xPt c k (xin m c)) ∗ All (fun k => cPt c k (chunkFn m c)) ∗ All (fun k => sPt c k (sendFn m c))
    ∗ All (fun k => rPt c k (sendFn m (px c))) ∗ All (fun k => ePt fullShare c k (sumFn m c))
    ∗ All (fun k => oPt c c k (outFn m c)) ∗ All (fun k => oPt (py c) c k (outFn m c)))

omit [FloatOps F] in
/-- The x peer's receive buffer, in chunks. -/
theorem split_r (c : Dev nD) :
    iprop(∃ f : Buf (Elt F) ((px c : Thread nD τ).loc cc0_scratch2), ((px c : Thread nD τ).loc cc0_scratch2) ↦{fullShare} f)
      ⊢ All (fun k => iprop(∃ f, rPt (F := F) (px c) k f)) := by
  have step : ∀ f : Buf (Elt F) ((px c : Thread nD τ).loc cc0_scratch2),
      (((px c : Thread nD τ).loc cc0_scratch2) ↦{fullShare} f : sProp 𝕄) ⊢ All (fun k => iprop(∃ f, rPt (F := F) (px c) k f)) := fun f => by
    rw [Ring.pointsTo_blocks (ℓ := (px c : Thread nD τ).loc cc0_scratch2) bI bI_disj bI_cover f]
    have h (k : Fin 16) : rPt (F := F) (px c) k f ⊢ iprop(∃ f, rPt (F := F) (px c) k f) := by iintro H; iexists f; iexact H
    exact bigSep_mono fun k _ => (Entails.of_eq (rPt_eq (px c) k f).symm).trans (h k)
  iintro ⟨%f, H⟩
  iapply (step f); iexact H

omit [FloatOps F] in
/-- The rows of the y peer's result this device fills, in chunks. -/
theorem split_o (c d : Dev nD) :
    iprop(∃ f : Buf (Elt F) ((d : Thread nD τ).loc main_v1), ((d : Thread nD τ).loc main_v1) ↦[oS c]{fullShare} f)
      ⊢ All (fun k => iprop(∃ f, oPt (F := F) c d k f)) := by
  have step : ∀ f : Buf (Elt F) ((d : Thread nD τ).loc main_v1),
      (((d : Thread nD τ).loc main_v1) ↦[oS c]{fullShare} f : sProp 𝕄) ⊢ All (fun k => iprop(∃ f, oPt (F := F) c d k f)) := fun f => by
    rw [Ring.pointsTo_sub_blocks (ℓ := (d : Thread nD τ).loc main_v1) (oI c) (oI_disj c) (oS c) rfl f]
    have h (k : Fin 16) : oPt (F := F) c d k f ⊢ iprop(∃ f, oPt (F := F) c d k f) := by iintro H; iexists f; iexact H
    exact bigSep_mono fun k _ => (Entails.of_eq (oPt_eq c d k f).symm).trans (h k)
  iintro ⟨%f, H⟩
  iapply (step f); iexact H

/-! ## The families, piece by piece -/

theorem all_stageA (c : Dev nD) : All (stageA m c) = iprop(All (fun k => xPt c k (xin m c)) ∗ All (fun k => iprop(∃ f, cPt c k f)) ∗ All (tok 0 c)) := by
  unfold All stageA; rw [bigSep_sep', bigSep_sep']
theorem all_sendA (c : Dev nD) : All (sendA (F := F) c) = iprop(All (stageB c) ∗ All (before 0 c) ∗ All (fun k => iprop(∃ f, sPt c k f))
    ∗ All (fun k => iprop(∃ f, rPt (px c) k f)) ∗ All (tok 2 c) ∗ All (tok 3 (px c))) := by
  unfold All sendA; rw [bigSep_sep', bigSep_sep', bigSep_sep', bigSep_sep', bigSep_sep']
theorem all_sendB (c : Dev nD) : All (sendB m c) = iprop(All (after 0 c) ∗ All (fun k => xPt c k (xin m c)) ∗ All (fun k => cPt c k (chunkFn m c))
    ∗ All (fun k => crd 2 c k NB)) := by
  unfold All sendB; rw [bigSep_sep', bigSep_sep', bigSep_sep']
theorem all_keepA (c : Dev nD) : All (keepA m c) = iprop(All (fun k => cPt c k (chunkFn m c)) ∗ All (fun k => iprop(∃ f, ePt fullShare c k f))) := by
  unfold All keepA; rw [bigSep_sep']
theorem all_keepB (c : Dev nD) : All (keepB m c) = iprop(All (fun k => cPt c k (chunkFn m c)) ∗ All (fun k => ePt fullShare c k (keepFn m c))) := by
  unfold All keepB; rw [bigSep_sep']
theorem all_sumA (c : Dev nD) : All (sumA m c) = iprop(All (fun k => crd 3 c k NB) ∗ All (before 3 c) ∗ All (fun k => ePt fullShare c k (keepFn m c))
    ∗ All (fun k => iprop(∃ f, oPt c c k f)) ∗ All (fun k => iprop(∃ f, oPt c (py c) k f)) ∗ All (tok 1 c) ∗ All (tok 4 c) ∗ All (tok 5 (py c))) := by
  unfold All sumA; rw [bigSep_sep', bigSep_sep', bigSep_sep', bigSep_sep', bigSep_sep', bigSep_sep', bigSep_sep']
theorem all_sumB (c : Dev nD) : All (sumB m c) = iprop(All (after 3 c) ∗ All (fun k => rPt c k (sendFn m (px c))) ∗ All (fun k => crd 1 c k NB)
    ∗ All (fun k => crd 4 c k NB)) := by
  unfold All sumB; rw [bigSep_sep', bigSep_sep', bigSep_sep']
theorem all_recvA (c : Dev nD) : All (recvA (F := F) c) = iprop(All (fun k => crd 5 c k NB) ∗ All (before 5 c)) := by
  unfold All recvA; rw [bigSep_sep']
theorem all_recvB (c : Dev nD) : All (recvB m c) = iprop(All (after 5 c) ∗ All (fun k => oPt (py c) c k (outFn m c))) := by
  unfold All recvB; rw [bigSep_sep']
theorem all_drainA (c : Dev nD) : All (drainA (F := F) c) = iprop(All (fun k => crd 1 c k NB) ∗ All (before 1 c) ∗ All (fun k => crd 4 c k NB)
    ∗ All (before 4 c) ∗ All (fun k => crd 2 c k NB) ∗ All (before 2 c)) := by
  unfold All drainA; rw [bigSep_sep', bigSep_sep', bigSep_sep', bigSep_sep', bigSep_sep']
theorem all_drainB (c : Dev nD) : All (drainB m c) = iprop(All (after 1 c) ∗ All (after 4 c) ∗ All (after 2 c) ∗ All (fun k => oPt c c k (outFn m c))
    ∗ All (fun k => ePt fullShare c k (sumFn m c)) ∗ All (fun k => sPt c k (sendFn m c))) := by
  unfold All drainB; rw [bigSep_sep', bigSep_sep', bigSep_sep', bigSep_sep', bigSep_sep']

/-! ## The phases together -/

/-- The phases of a device, from what it holds at the start to what it holds at the end. -/
theorem wp_phases (c : Dev nD) (Q : PUnit → sProp 𝕄) :
    iprop(env m K₀ ∗ ghost c ∗ held m c ∗ owesE c (O₀ c) ∗ ((passed c ∗ filled m c ∗ owesE c 0) -∗ Wp c (.ret ⟨⟩) Q)) ⊢ Wp c (phases c) Q := by
  unfold ghost held passed filled phases
  iintro ⟨#HE, ⟨⟨HaB, HcB, HtBx, HtBy⟩, ⟨Hb0, Hb1, Hb2, Hb3, Hb4, Hb5⟩, ⟨Ht0, Ht1, Ht2, Ht3, Ht4, Ht5⟩, Hc3, Hc5⟩,
    ⟨Hx, Hc, Hs, Hr, He, Ho, Hp⟩, HO, HK⟩
  -- staging
  iapply (run_all c (env m K₀) (stStage c) (stageA m c) (stageB c) (fun _ => iprop(emp)) Q (fun k l K => stage_step m K₀ c Q k l K))
  isplitr; · iexact HE
  isplitl [Hx Hc Ht0]
  · iapply (Entails.of_eq (all_stageA m c).symm)
    isplitl [Hx]; · iexact Hx
    isplitl [Hc]; · iexact Hc
    iexact Ht0
  isplitr; · iempintro
  iintro ⟨Hst, -⟩
  -- the handshake
  iapply (bar_step m K₀ c Q)
  isplitr; · iexact HE
  isplitl [HaB HcB HtBx HtBy Hr Hp]
  · unfold barA
    isplitl [HaB]; · iexact HaB
    isplitl [HcB]; · iexact HcB
    isplitl [HtBx]; · iexact HtBx
    isplitl [HtBy]; · iexact HtBy
    isplitl [Hr]; · iexact Hr
    iexact Hp
  isplitl [HO]; · iexact HO
  unfold barB
  iintro ⟨⟨HaB, Hr, Hp⟩, HO⟩
  ihave Hr := (split_r (F := F) c) $$ Hr
  ihave Hp := (split_o (F := F) c (py c)) $$ Hp
  -- sending
  iapply (run_all c (env m K₀) (stSend c) (sendA c) (sendB m c) (fun l => owesE c (OY c chunks + OX c l)) Q (fun k l K => send_step m K₀ c Q k l K))
  isplitr; · iexact HE
  isplitl [Hst Hb0 Hs Hr Ht2 Ht3]
  · iapply (Entails.of_eq (all_sendA c).symm)
    isplitl [Hst]; · iexact Hst
    isplitl [Hb0]; · iexact Hb0
    isplitl [Hs]; · iexact Hs
    isplitl [Hr]; · iexact Hr
    isplitl [Ht2]; · iexact Ht2
    iexact Ht3
  isplitl [HO]; · iexact HO
  iintro ⟨Hall, HO⟩
  ihave ⟨Ha0, Hx, Hc, Hc2⟩ := (Entails.of_eq (all_sendB m c)) $$ Hall
  -- keeping
  iapply (run_all c (env m K₀) (stKeep c) (keepA m c) (keepB m c) (fun _ => iprop(emp)) Q (fun k l K => keep_step m K₀ c Q k l K))
  isplitr; · iexact HE
  isplitl [Hc He]
  · iapply (Entails.of_eq (all_keepA m c).symm)
    isplitl [Hc]; · iexact Hc
    iexact He
  isplitr; · iempintro
  iintro ⟨Hall, -⟩
  ihave ⟨Hc, He⟩ := (Entails.of_eq (all_keepB m c)) $$ Hall
  -- adding
  iapply (run_all c (env m K₀) (stSum c) (sumA m c) (sumB m c) (fun l => owesE c (OY c l)) Q (fun k l K => sum_step m K₀ c Q k l K))
  isplitr; · iexact HE
  isplitl [Hc3 Hb3 He Ho Hp Ht1 Ht4 Ht5]
  · iapply (Entails.of_eq (all_sumA m c).symm)
    isplitl [Hc3]; · iexact Hc3
    isplitl [Hb3]; · iexact Hb3
    isplitl [He]; · iexact He
    isplitl [Ho]; · iexact Ho
    isplitl [Hp]; · iexact Hp
    isplitl [Ht1]; · iexact Ht1
    isplitl [Ht4]; · iexact Ht4
    iexact Ht5
  isplitl [HO]
  · iapply (Entails.of_eq (congrArg (owesE c) (show OY c chunks + OX c [] = OY c chunks from add_zero _))); iexact HO
  iintro ⟨Hall, HO⟩
  ihave ⟨Ha3, Hr, Hc1, Hc4⟩ := (Entails.of_eq (all_sumB m c)) $$ Hall
  -- receiving
  iapply (run_all c (env m K₀) (stRecv c) (recvA c) (recvB m c) (fun _ => owesE c 0) Q (fun k l K => recv_step m K₀ c Q k l K))
  isplitr; · iexact HE
  isplitl [Hc5 Hb5]
  · iapply (Entails.of_eq (all_recvA c).symm)
    isplitl [Hc5]; · iexact Hc5
    iexact Hb5
  isplitl [HO]; · iexact HO
  iintro ⟨Hall, HO⟩
  ihave ⟨Ha5, Hp⟩ := (Entails.of_eq (all_recvB m c)) $$ Hall
  -- draining
  iapply (run_all c (env m K₀) (stDrain c) (drainA c) (drainB m c) (fun _ => owesE c 0) Q (fun k l K => drain_step m K₀ c Q k l K))
  isplitr; · iexact HE
  isplitl [Hc1 Hb1 Hc4 Hb4 Hc2 Hb2]
  · iapply (Entails.of_eq (all_drainA c).symm)
    isplitl [Hc1]; · iexact Hc1
    isplitl [Hb1]; · iexact Hb1
    isplitl [Hc4]; · iexact Hc4
    isplitl [Hb4]; · iexact Hb4
    isplitl [Hc2]; · iexact Hc2
    iexact Hb2
  isplitl [HO]; · iexact HO
  iintro ⟨Hall, HO⟩
  ihave ⟨Ha1, Ha4, Ha2, Ho, He, Hs⟩ := (Entails.of_eq (all_drainB m c)) $$ Hall
  iapply HK
  isplitl [HaB Ha0 Ha1 Ha2 Ha3 Ha4 Ha5]
  · isplitl [HaB]; · iexact HaB
    isplitl [Ha0]; · iexact Ha0
    isplitl [Ha1]; · iexact Ha1
    isplitl [Ha2]; · iexact Ha2
    isplitl [Ha3]; · iexact Ha3
    isplitl [Ha4]; · iexact Ha4
    iexact Ha5
  isplitr [HO]
  · isplitl [Hx]; · iexact Hx
    isplitl [Hc]; · iexact Hc
    isplitl [Hs]; · iexact Hs
    isplitl [Hr]; · iexact Hr
    isplitl [He]; · iexact He
    isplitl [Ho]; · iexact Ho
    iexact Hp
  iexact HO

end Cert.KProof

end
-- ==== Proof.Fund.lean ====
/-
What the launch deals the devices: the cells, the rights to signal them, and the credits to wait with.
-/
module

public import proofs.«01_k».proof.Proof.Body

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Cells apart -/

theorem dCell_inj {j j' : Fin 6} {c c' : Dev nD} {k k' : Fin 16} (h : dCell j c k = dCell j' c' k') : c = c' ∧ j = j' ∧ k = k' := by
  have hq : dsem j k = dsem j' k' := SemLoc.dma.inj (congrArg Prod.snd h)
  exact ⟨congrArg (fun g : GSem nD τ sig => g.1.1) h, by rw [← jOf_dsem j k, hq, jOf_dsem], by rw [← kOf_dsem j k, hq, kOf_dsem]⟩
theorem barCell_inj {c c' : Dev nD} (h : barCell c = barCell c') : c = c' := congrArg (fun g : GSem nD τ sig => g.1.1) h
theorem bar_ne_dma {j : Fin 6} {c c' : Dev nD} {k : Fin 16} : barCell c ≠ dCell j c' k := fun h => by
  have h' : (SemLoc.reg barS : SemLoc sig) = .dma (dsem j k) := congrArg Prod.snd h
  cases h'

theorem csem_bar_ne {u : Unit} {p : Fin 6 × Fin 16} : csem (.inl u) ≠ csem (.inr p) := fun h => by
  have h' : (SemLoc.reg barS : SemLoc sig) = .dma (dsem p.1 p.2) := h
  cases h'
theorem csem_injective : Function.Injective csem := by
  rintro (u | ⟨j, k⟩) (u' | ⟨j', k'⟩) h
  · rfl
  · exact absurd h csem_bar_ne
  · exact absurd h.symm csem_bar_ne
  · have hq : dsem j k = dsem j' k' := SemLoc.dma.inj h
    rw [show j = j' by rw [← jOf_dsem j k, hq, jOf_dsem], show k = k' by rw [← kOf_dsem j k, hq, kOf_dsem]]

theorem kcell_injective : Function.Injective (kcell : Dev nD × CI → GSem nD τ sig) := by
  rintro ⟨c, x⟩ ⟨c', x'⟩ h
  have h₁ : c = c' := congrArg (fun g : GSem nD τ sig => g.1.1) h
  have h₂ : x = x' := csem_injective (congrArg Prod.snd h)
  rw [h₁, h₂]

/-- The cells of the protocol. -/
def protoCells : Finset (GSem nD τ sig) := Finset.univ.map ⟨kcell, kcell_injective⟩

/-- The right to each duty of the cells of a device: two at the barrier's, one at each transfer's. -/
abbrev tokOf (x : Dev nD × (Bool ⊕ (Fin 6 × Fin 16))) : GSem nD τ sig × ℕ × Bool := match x.2 with
  | .inl b => (barCell x.1, 0, b)
  | .inr p => (dCell p.1 x.1 p.2, 0, false)
theorem tokOf_injective : Function.Injective tokOf := by
  rintro ⟨c, b | ⟨j, k⟩⟩ ⟨c', b' | ⟨j', k'⟩⟩ h
  · have h₁ : c = c' := barCell_inj (congrArg Prod.fst h)
    rw [h₁, show b = b' from congrArg (fun x : GSem nD τ sig × ℕ × Bool => x.2.2) h]
  · exact absurd (congrArg Prod.fst h) bar_ne_dma
  · exact absurd (congrArg Prod.fst h).symm bar_ne_dma
  · obtain ⟨h₁, h₂, h₃⟩ : c = c' ∧ j = j' ∧ k = k' := dCell_inj (congrArg Prod.fst h)
    rw [h₁, h₂, h₃]
/-- All those rights. -/
def protoToks : Finset (GSem nD τ sig × ℕ × Bool) := Finset.univ.map ⟨tokOf, tokOf_injective⟩

/-! ## Families over the cells of a device -/

/-- A family over the transfer cells, array by array. -/
theorem sep_six (Φ : Fin 6 → Fin 16 → sProp 𝕄) : bigSep Finset.univ (fun p : Fin 6 × Fin 16 => Φ p.1 p.2)
    = iprop(All (Φ 0) ∗ All (Φ 1) ∗ All (Φ 2) ∗ All (Φ 3) ∗ All (Φ 4) ∗ All (Φ 5)) := by
  rw [bigSep_univ_prod, bigSep_univ_eq_bigSepL [0, 1, 2, 3, 4, 5] (by decide) (by decide)]
  rfl
/-- A family over the cells of a device: the barrier's, then the transfers'. -/
theorem sep_cells (Φ : CI → sProp 𝕄) : bigSep Finset.univ Φ
    = iprop(Φ (.inl ()) ∗ All (fun k => Φ (.inr (0, k))) ∗ All (fun k => Φ (.inr (1, k))) ∗ All (fun k => Φ (.inr (2, k)))
      ∗ All (fun k => Φ (.inr (3, k))) ∗ All (fun k => Φ (.inr (4, k))) ∗ All (fun k => Φ (.inr (5, k)))) := by
  rw [bigSep_univ_sum, bigSep_univ_of_subsingleton (), ← sep_six (fun j k => Φ (.inr (j, k)))]
  rfl

variable (m : (ℓ : Loc nD τ sig) → Buf (Elt F) ℓ)

/-- The rights to the duties of the cells of device `c`. -/
def toks (c : Dev nD) : sProp 𝕄 :=
  iprop((dutyTok ER (barCell c) 0 true ∗ dutyTok ER (barCell c) 0 false)
    ∗ All (tok 0 c) ∗ All (tok 1 c) ∗ All (tok 2 c) ∗ All (tok 3 c) ∗ All (tok 4 c) ∗ All (tok 5 c))
/-- The rights to the duties device `c` fulfils. -/
def payToks (c : Dev nD) : sProp 𝕄 :=
  iprop((dutyTok ER (barCell (px c)) 0 true ∗ dutyTok ER (barCell (py c)) 0 false)
    ∗ All (tok 0 c) ∗ All (tok 1 c) ∗ All (tok 2 c) ∗ All (tok 3 (px c)) ∗ All (tok 4 c) ∗ All (tok 5 (py c)))
/-- Where device `c` stands at the start. -/
def stand (c : Dev nD) : sProp 𝕄 :=
  iprop(atPos ER (barCell c) 0 ∅ 0 ∗ All (before 0 c) ∗ All (before 1 c) ∗ All (before 2 c) ∗ All (before 3 c) ∗ All (before 4 c) ∗ All (before 5 c))

/-- What the launch deals device `c`. -/
def G (c : Dev nD) : sProp 𝕄 :=
  iprop((bigSep Finset.univ fun x : CI => roundState ER (Rd m) (kcell (c, x)) 0)
    ∗ (bigSep Finset.univ fun x : CI => iprop(atPos ER (kcell (c, x)) 0 ∅ 0 ∗ reached ER (kcell (c, x)) 0)) ∗ toks c)
/-- What device `c` starts from, once the invariants are there. -/
def G' (c : Dev nD) : sProp 𝕄 := iprop(∃ K : Dev nD × CI → ℕ, records m K ∗ stand c ∗ payToks c)

theorem fund_proto : BI.own (ER (initOf protoCells protoToks)) ⊢ (|==> bigSep Finset.univ (G m) : sProp 𝕄) := by
  have hX (Φ : GSem nD τ sig → sProp 𝕄) : bigSep protoCells Φ = bigSep Finset.univ fun c : Dev nD => bigSep Finset.univ fun x : CI => Φ (kcell (c, x)) := by
    unfold protoCells; rw [bigSep_map, bigSep_univ_prod]; rfl
  have hT : bigSep protoToks (fun x => (dutyTok ER x.1 x.2.1 x.2.2 : sProp 𝕄)) = bigSep Finset.univ fun c : Dev nD => toks c := by
    unfold protoToks; rw [bigSep_map, bigSep_univ_prod]
    refine bigSep_congr fun c _ => ?_
    rw [bigSep_univ_sum, bigSep_univ_eq_bigSepL [true, false] (by decide) (by decide), bigSepL_cons_cons, bigSepL_singleton]
    unfold toks
    rw [← sep_six (fun j k => tok (F := F) j c k)]
    rfl
  iintro HX
  imod (Rounds.fund ER (Rd m) protoCells protoToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The invariants -/

/-- The semaphores of the transfers. -/
abbrev osem : Fin 6 × Fin 16 → SemLoc sig := fun p => .dma (dsem p.1 p.2)

theorem ownSems0_eq (c : Dev nD) : (Pipeline.ownSems0 (Ix := Unit) (Name := ℕ) (U := UU) (Lvl := ℕ) (Val := Elt F) (τ := τ) osem c : sProp 𝕄)
    = bigSep Finset.univ fun p : Fin 6 × Fin 16 => semVal (dCell p.1 c p.2) 0 := rfl
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun x : CI => semVal (kcell (c, x)) 0 : sProp 𝕄) := by
  rw [ownSems0_eq, unscopedSems0_eq, sep_cells, sep_six (fun j k => semVal (dCell j c k) 0)]
  iintro ⟨H, HB⟩
  isplitl [HB]; · iexact HB
  iexact H

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun x => iprop(∃ κ : ℕ, cellInv ER (Rd m) κ (kcell (c, x))))
          ∗ (bigSep Finset.univ fun x => iprop(atPos ER (kcell (c, x)) 0 ∅ 0 ∗ reached ER (kcell (c, x)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun x : CI => semVal (kcell (c, x)) 0) ∗ bigSep Finset.univ fun x : CI => roundState ER (Rd m) (kcell (c, x)) 0)
      ⊢ (|={Set.univ}=> bigSep Finset.univ fun x => iprop(∃ κ : ℕ, cellInv ER (Rd m) κ (kcell (c, x))) : sProp 𝕄) from by
        rw [← bigSep_sep']
        exact (bigSep_mono fun x _ => (Rounds.body_intro ER (Rd m) (kcell (c, x))).trans inv_alloc).trans (bigSep_fupd _ _)) $$ [Hv Hst] with Hinv
  · isplitl [Hv] <;> iassumption
  imodintro
  isplitl [Hinv]; · iexact Hinv
  isplitl [Hat]; · iexact Hat
  iexact Htok

/-- The rights dealt to the devices that use them. -/
theorem toks_around : (bigSep Finset.univ fun c : Dev nD => (toks c : sProp 𝕄)) ⊢ bigSep Finset.univ fun c : Dev nD => payToks c := by
  unfold toks payToks
  simp only [bigSep_sep']
  rw [bigSep_univ_equiv pxE (fun c : Dev nD => (dutyTok ER (barCell c) 0 true : sProp 𝕄)),
    bigSep_univ_equiv pyE (fun c : Dev nD => (dutyTok ER (barCell c) 0 false : sProp 𝕄)),
    bigSep_univ_equiv pxE (fun c : Dev nD => (All (tok 3 c) : sProp 𝕄)),
    bigSep_univ_equiv pyE (fun c : Dev nD => (All (tok 5 c) : sProp 𝕄))]
  exact Entails.of_eq (PROP := sProp 𝕄) rfl

theorem stands : (bigSep Finset.univ fun c : Dev nD => bigSep Finset.univ fun x : CI => (atPos ER (kcell (c, x)) 0 ∅ 0 : sProp 𝕄))
    ⊢ bigSep Finset.univ fun c : Dev nD => stand c := by
  refine bigSep_mono fun c _ => ?_
  unfold stand; rw [sep_cells]; exact Entails.of_eq (PROP := sProp 𝕄) rfl

/-- A family weakened member by member, with a persistent fact at hand. -/
theorem sep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun x => iprop(∃ κ : ℕ, cellInv ER (Rd m) κ (kcell (c, x))))
          ∗ (bigSep Finset.univ fun x => iprop(atPos ER (kcell (c, x)) 0 ∅ 0 ∗ reached ER (kcell (c, x)) 0)) ∗ toks c) : sProp 𝕄)
      ⊢ bigSep Finset.univ (G' m) := by
  rw [bigSep_sep', bigSep_sep', ← bigSep_univ_prod (fun cx : Dev nD × CI => iprop(∃ κ : ℕ, cellInv ER (Rd m) κ (kcell cx))),
    bigSep_congr (s := Finset.univ) (fun (c : Dev nD) _ => bigSep_sep' Finset.univ (fun x : CI => (atPos ER (kcell (c, x)) 0 ∅ 0 : sProp 𝕄)) (fun x => reached ER (kcell (c, x)) 0)),
    bigSep_sep', ← bigSep_univ_prod (fun cx : Dev nD × CI => (reached ER (kcell cx) 0 : sProp 𝕄))]
  iintro ⟨HI, ⟨Hat, #HR⟩, Htok⟩
  ihave HK := (BI.bigSep_exists_pi Finset.univ (fun (cx : Dev nD × CI) (κ : ℕ) => (cellInv ER (Rd m) κ (kcell cx) : sProp 𝕄))) $$ HI
  icases HK with ⟨%K, #HI⟩
  ihave Htk := (toks_around (F := F)) $$ Htok
  iapply (sep_with (R := records m K) (Φ := fun c => iprop(stand c ∗ payToks c)) (Ψ := G' m) fun c _ => by
    unfold G'; iintro ⟨#HI, H⟩; iexists K; isplitr; · iexact HI
    iexact H)
  isplitr
  · unfold records; isplitl; · iexact HI
    iexact HR
  · rw [bigSep_sep']
    isplitl [Hat]
    · iapply (stands (F := F))
      iexact Hat
    iexact Htk

/-- All devices' cells set up at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits -/

theorem owedOn_miss {f : Fin 16 → GSem nD τ sig} {g : GSem nD τ sig} (h : ∀ k, f k ≠ g) (l : List (Fin 16)) : owedOn f l g () = 0 := by
  by_contra hne
  obtain ⟨k, hk⟩ := owedOn_pos (Nat.pos_of_ne_zero hne)
  exact h k hk.symm
theorem owedOn_hit {f : Fin 16 → GSem nD τ sig} (hf : ∀ k k', f k = f k' → k = k') {k : Fin 16} :
    ∀ {l : List (Fin 16)}, l.Nodup → k ∈ l → owedOn f l (f k) () = NB := by
  have hout : ∀ {l : List (Fin 16)}, k ∉ l → owedOn f l (f k) () = 0 := by
    intro l hl
    induction l with
    | nil => rfl
    | cons k' l ih =>
      unfold owedOn
      rw [Pi.add_apply, Finsupp.add_apply, tallyAt_ne_cell (fun h => hl (by rw [hf k k' h]; exact List.mem_cons_self ..)), Finsupp.zero_apply,
        ih fun h => hl (List.mem_cons_of_mem _ h), Nat.add_zero]
  intro l hl hk
  induction l with
  | nil => exact absurd hk (List.not_mem_nil)
  | cons k' l ih =>
    unfold owedOn
    rw [Pi.add_apply, Finsupp.add_apply]
    rcases List.mem_cons.mp hk with h | h
    · subst h
      rw [hout (List.nodup_cons.mp hl).1, tallyAt_self, Nat.zero_add]
    · rw [ih (List.nodup_cons.mp hl).2 h, tallyAt_ne_cell (fun he => (List.nodup_cons.mp hl).1 (by rw [← hf k k' he]; exact h)), Finsupp.zero_apply, Nat.add_zero]

theorem mem_chunks : ∀ k : Fin 16, k ∈ chunks := by decide
theorem nodup_chunks : chunks.Nodup := by decide

theorem px_eq_iff {c d : Dev nD} : px d = c ↔ d = px c := ⟨fun h => by rw [← h, px_px], fun h => by rw [h, px_px]⟩
theorem py_eq_iff {c d : Dev nD} : py d = c ↔ d = py c := ⟨fun h => by rw [← h, py_py], fun h => by rw [h, py_py]⟩

theorem OX_at (d c : Dev nD) (k : Fin 16) : OX d chunks (dCell 3 c k) () = if d = px c then NB else 0 := by
  unfold OX
  by_cases h : d = px c
  · rw [if_pos h, px_eq_iff.mpr h]
    exact owedOn_hit (f := fun k => dCell 3 c k) (fun k k' h => (dCell_inj h).2.2) nodup_chunks (mem_chunks k)
  · rw [if_neg h]; exact owedOn_miss (fun k' h' => h (px_eq_iff.mp (dCell_inj h').1)) _
theorem OY_at (d c : Dev nD) (k : Fin 16) : OY d chunks (dCell 5 c k) () = if d = py c then NB else 0 := by
  unfold OY
  by_cases h : d = py c
  · rw [if_pos h, py_eq_iff.mpr h]
    exact owedOn_hit (f := fun k => dCell 5 c k) (fun k k' h => (dCell_inj h).2.2) nodup_chunks (mem_chunks k)
  · rw [if_neg h]; exact owedOn_miss (fun k' h' => h (py_eq_iff.mp (dCell_inj h').1)) _

/-- What device `d` owes the barrier cell of device `c`. -/
theorem owed_bar (d c : Dev nD) : O₀ d (barCell c) () = (if d = py c then 1 else 0) + (if d = px c then 1 else 0) := by
  have hx : OX d chunks (barCell c) () = 0 := owedOn_miss (fun k h => bar_ne_dma h.symm) _
  have hy : OY d chunks (barCell c) () = 0 := owedOn_miss (fun k h => bar_ne_dma h.symm) _
  unfold O₀
  rw [Pi.add_apply, Finsupp.add_apply, Pi.add_apply, Finsupp.add_apply, Pi.add_apply, Finsupp.add_apply, hx, hy, tallyAt_apply, tallyAt_apply,
    Nat.zero_add]
  congr 1
  · exact if_congr ⟨fun h => py_eq_iff.mp (barCell_inj h.1).symm, fun h => ⟨by rw [py_eq_iff.mpr h], rfl⟩⟩ rfl rfl
  · exact if_congr ⟨fun h => px_eq_iff.mp (barCell_inj h.1).symm, fun h => ⟨by rw [px_eq_iff.mpr h], rfl⟩⟩ rfl rfl
/-- What device `d` owes a cell of device `c` that the x peer fills. -/
theorem owed_x (d c : Dev nD) (k : Fin 16) : O₀ d (dCell 3 c k) () = if d = px c then NB else 0 := by
  have hy : OY d chunks (dCell 3 c k) () = 0 := owedOn_miss (fun k' h => absurd (dCell_inj h).2.1 (by decide)) _
  unfold O₀
  rw [Pi.add_apply, Finsupp.add_apply, Pi.add_apply, Finsupp.add_apply, Pi.add_apply, Finsupp.add_apply, hy, OX_at,
    tallyAt_ne_cell (fun h => bar_ne_dma h.symm), tallyAt_ne_cell (fun h => bar_ne_dma h.symm), Finsupp.zero_apply, Nat.zero_add]
  rfl
/-- What device `d` owes a cell of device `c` that the y peer fills. -/
theorem owed_y (d c : Dev nD) (k : Fin 16) : O₀ d (dCell 5 c k) () = if d = py c then NB else 0 := by
  have hx : OX d chunks (dCell 5 c k) () = 0 := owedOn_miss (fun k' h => absurd (dCell_inj h).2.1 (by decide)) _
  unfold O₀
  rw [Pi.add_apply, Finsupp.add_apply, Pi.add_apply, Finsupp.add_apply, Pi.add_apply, Finsupp.add_apply, hx, OY_at,
    tallyAt_ne_cell (fun h => bar_ne_dma h.symm), tallyAt_ne_cell (fun h => bar_ne_dma h.symm), Finsupp.zero_apply]
  rfl

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (py c) fun _ => 1, Finset.sum_ite_eq' Finset.univ (px c) fun _ => 1, if_pos (Finset.mem_univ _), if_pos (Finset.mem_univ _)]
theorem launch_x (c : Dev nD) (k : Fin 16) :
    tallyOn (dCell 3 c k) (launchCredit (Pipeline.owing O₀) 0 (dCell 3 c k)) = (tallyAt (dCell 3 c k) () NB : CellTallies nD τ sig Unit) := by
  unfold tallyAt; refine congrArg _ (Finsupp.ext fun u => ?_); cases u
  rw [Pipeline.launchCredit_owing, Finsupp.single_eq_same, Finset.sum_congr rfl fun d _ => owed_x d c k,
    Finset.sum_ite_eq' Finset.univ (px c) fun _ => NB, if_pos (Finset.mem_univ _)]
theorem launch_y (c : Dev nD) (k : Fin 16) :
    tallyOn (dCell 5 c k) (launchCredit (Pipeline.owing O₀) 0 (dCell 5 c k)) = (tallyAt (dCell 5 c k) () NB : CellTallies nD τ sig Unit) := by
  unfold tallyAt; refine congrArg _ (Finsupp.ext fun u => ?_); cases u
  rw [Pipeline.launchCredit_owing, Finsupp.single_eq_same, Finset.sum_congr rfl fun d _ => owed_y d c k,
    Finset.sum_ite_eq' Finset.univ (py c) fun _ => NB, if_pos (Finset.mem_univ _)]

/-- The credits of device `c` at launch. -/
theorem creds (c : Dev nD) :
    (Pipeline.launchCred O₀ c : sProp 𝕄) ⊢ iprop(cred (tallyAt (barCell c) () 2) ∗ All (fun k => crd 3 c k NB) ∗ All (fun k => crd 5 c k NB)) := by
  unfold Pipeline.launchCred
  refine (bigSep_subset (Finset.subset_univ (Finset.univ.map ⟨csem, csem_injective⟩))).trans ?_
  rw [bigSep_map, sep_cells]
  show iprop(cred (tallyOn (barCell c) (launchCredit (Pipeline.owing O₀) 0 (barCell c))) ∗ _ ∗ _ ∗ _
    ∗ All (fun k => cred (tallyOn (dCell 3 c k) (launchCredit (Pipeline.owing O₀) 0 (dCell 3 c k)))) ∗ _
    ∗ All (fun k => cred (tallyOn (dCell 5 c k) (launchCredit (Pipeline.owing O₀) 0 (dCell 5 c k))))) ⊢ _
  rw [launch_bar, show (fun k => cred (tallyOn (dCell 3 c k) (launchCredit (Pipeline.owing O₀) 0 (dCell 3 c k)))) = (fun k => (crd 3 c k NB : sProp 𝕄)) from
      funext fun k => by rw [launch_x],
    show (fun k => cred (tallyOn (dCell 5 c k) (launchCredit (Pipeline.owing O₀) 0 (dCell 5 c k)))) = (fun k => (crd 5 c k NB : sProp 𝕄)) from
      funext fun k => by rw [launch_y]]
  iintro ⟨H, -, -, -, H3, -, H5⟩
  isplitl [H]; · iexact H
  isplitl [H3]; · iexact H3
  iexact H5

end Cert.KProof

end
-- ==== Proof.Exit.lean ====
/-
Whole buffers into the pieces the body works on, and back; the cells closed at the end.
-/
module

public import proofs.«01_k».proof.Proof.Fund

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Whole buffers in pieces -/

/-- The half of the argument a device reads, in chunks, and the half it does not. -/
theorem whole_x (c : Dev nD) (f : Buf (Elt F) ((c : Thread nD τ).loc main_arg0)) :
    (((c : Thread nD τ).loc main_arg0) ↦{fullShare} f : sProp 𝕄)
      = iprop(All (fun k => xPt c k f) ∗ (((c : Thread nD τ).loc main_arg0) ↦[Finset.univ \ xS c]{fullShare} f)) := by
  have h := pointsTo_split_subset (Ix := Unit) (Val := Elt F) (Name := ℕ) (U := UU) (Lvl := ℕ) (ℓ := (c : Thread nD τ).loc main_arg0) (q := fullShare) (f := f) (Finset.subset_univ (xS c))
  rw [Entails.antisymm h.1 h.2,
    Ring.pointsTo_sub_blocks (ℓ := (c : Thread nD τ).loc main_arg0) (xI c) (xI_disj c) (xS c) rfl f]
  exact congrArg (fun P => iprop(P ∗ (((c : Thread nD τ).loc main_arg0) ↦[Finset.univ \ xS c]{fullShare} f))) (bigSep_congr fun k _ => (xPt_eq c k f).symm)
/-- The result in chunks: the half a device fills itself and the half its y peer fills. -/
theorem whole_o (c : Dev nD) (f : Buf (Elt F) ((c : Thread nD τ).loc main_v1)) :
    (((c : Thread nD τ).loc main_v1) ↦{fullShare} f : sProp 𝕄)
      = iprop((((c : Thread nD τ).loc main_v1) ↦[oS c]{fullShare} f) ∗ (((c : Thread nD τ).loc main_v1) ↦[oS (py c)]{fullShare} f)) := by
  have h := pointsTo_union (Ix := Unit) (Val := Elt F) (Name := ℕ) (U := UU) (Lvl := ℕ) (ℓ := (c : Thread nD τ).loc main_v1) (q := fullShare) (f := f) (oS_disj c)
  rw [← Entails.antisymm h.1 h.2, oS_cover]
theorem part_o (c d : Dev nD) (f : Buf (Elt F) ((d : Thread nD τ).loc main_v1)) :
    (((d : Thread nD τ).loc main_v1) ↦[oS c]{fullShare} f : sProp 𝕄) = All (fun k => oPt c d k f) := by
  rw [Ring.pointsTo_sub_blocks (ℓ := (d : Thread nD τ).loc main_v1) (oI c) (oI_disj c) (oS c) rfl f]
  exact bigSep_congr fun k _ => (oPt_eq c d k f).symm
theorem whole_c (c : Dev nD) (f : Buf (Elt F) ((c : Thread nD τ).loc cc0_scratch0)) :
    (((c : Thread nD τ).loc cc0_scratch0) ↦{fullShare} f : sProp 𝕄) = All (fun k => cPt c k f) := by
  rw [Ring.pointsTo_blocks (ℓ := (c : Thread nD τ).loc cc0_scratch0) cI cI_disj cI_cover f]
  exact bigSep_congr fun k _ => (cPt_eq c k f).symm
theorem whole_s (c : Dev nD) (f : Buf (Elt F) ((c : Thread nD τ).loc cc0_scratch1)) :
    (((c : Thread nD τ).loc cc0_scratch1) ↦{fullShare} f : sProp 𝕄) = All (fun k => sPt c k f) := by
  rw [Ring.pointsTo_blocks (ℓ := (c : Thread nD τ).loc cc0_scratch1) bI bI_disj bI_cover f]
  exact bigSep_congr fun k _ => (sPt_eq c k f).symm
theorem whole_r (c : Dev nD) (f : Buf (Elt F) ((c : Thread nD τ).loc cc0_scratch2)) :
    (((c : Thread nD τ).loc cc0_scratch2) ↦{fullShare} f : sProp 𝕄) = All (fun k => rPt c k f) := by
  rw [Ring.pointsTo_blocks (ℓ := (c : Thread nD τ).loc cc0_scratch2) bI bI_disj bI_cover f]
  exact bigSep_congr fun k _ => (rPt_eq c k f).symm
theorem whole_e (c : Dev nD) (f : Buf (Elt F) ((c : Thread nD τ).loc cc0_scratch3)) :
    (((c : Thread nD τ).loc cc0_scratch3) ↦{fullShare} f : sProp 𝕄) = All (fun k => ePt fullShare c k f) := by
  rw [Ring.pointsTo_blocks (ℓ := (c : Thread nD τ).loc cc0_scratch3) bI bI_disj bI_cover f]
  exact bigSep_congr fun k _ => (ePt_eq fullShare c k f).symm

/-- The kernel's scratch buffers, holding anything. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))

/-- The half of the argument the device does not read. -/
def spare (c : Dev nD) : sProp 𝕄 := ((c : Thread nD τ).loc main_arg0) ↦[Finset.univ \ xS c]{fullShare} xin m c

/-- A family of pieces of known contents is one of pieces of some contents. -/
theorem all_some {α : Type} (Φ : Fin 16 → α → sProp 𝕄) (f : α) : All (fun k => Φ k f) ⊢ All (fun k => iprop(∃ f, Φ k f)) := by
  have h (k : Fin 16) : Φ k f ⊢ iprop(∃ f, Φ k f) := by iintro H; iexists f; iexact H
  exact bigSep_mono fun k _ => h k

/-- The buffers at launch, in the body's pieces. -/
theorem held_intro (c : Dev nD) :
    iprop((((c : Thread nD τ).loc main_arg0) ↦{fullShare} xin m c) ∗ (((c : Thread nD τ).loc main_v1) ↦{fullShare} m ((c : Thread nD τ).loc main_v1)) ∗ scratch c)
      ⊢ iprop(held m c ∗ spare m c) := by
  unfold held scratch spare
  rw [whole_x, whole_o, part_o c c]
  iintro ⟨⟨Hx, Hy⟩, ⟨Ho, Hp⟩, ⟨%f0, H0⟩, ⟨%f1, H1⟩, H2, ⟨%f3, H3⟩⟩
  isplitr [Hy]
  · isplitl [Hx]; · iexact Hx
    isplitl [H0]; · iapply (all_some (fun k f => cPt c k f) f0); rw [← whole_c]; iexact H0
    isplitl [H1]; · iapply (all_some (fun k f => sPt c k f) f1); rw [← whole_s]; iexact H1
    isplitl [H2]; · iexact H2
    isplitl [H3]; · iapply (all_some (fun k f => ePt fullShare c k f) f3); rw [← whole_e]; iexact H3
    isplitl [Ho]; · iapply (all_some (fun k f => oPt c c k f) _); iexact Ho
    iexists _; iexact Hp
  · iexact Hy

/-- The buffers at the end, whole again. -/
theorem filled_exit (c : Dev nD) :
    iprop(filled m c ∗ spare m c)
      ⊢ iprop((((c : Thread nD τ).loc main_arg0) ↦{fullShare} xin m c) ∗ (((c : Thread nD τ).loc main_v1) ↦{fullShare} outFn m c) ∗ scratch c) := by
  unfold filled scratch spare
  rw [whole_x, whole_o, part_o c c, part_o (py c) c, ← whole_c, ← whole_s, ← whole_r, ← whole_e]
  iintro ⟨⟨Hx, Hc, Hs, Hr, He, Ho, Hp⟩, Hy⟩
  isplitl [Hx Hy]; · isplitl [Hx] <;> iassumption
  isplitl [Ho Hp]; · isplitl [Ho] <;> iassumption
  isplitl [Hc]; · iexists _; iexact Hc
  isplitl [Hs]; · iexists _; iexact Hs
  isplitl [Hr]; · iexists _; iexact Hr
  iexists _; iexact He

/-! ## The cells closed -/

variable (K₀ : Dev nD × CI → ℕ)

/-- Past its only round, a cell is closed and its counter is zero. -/
theorem close_one (c : Dev nD) (x : CI) : iprop(records m K₀ ∗ atPos ER (kcell (c, x)) 1 ∅ 0) ⊢ (|={Set.univ}=> semVal (kcell (c, x)) 0 : sProp 𝕄) := by
  iintro ⟨#HR, Hat⟩
  ihave #HI := (rec_inv m K₀ (c, x)) $$ HR
  iapply (Rounds.cell_close ER (Rd m) (Set.mem_univ (K₀ (c, x))) (fun h => h) (R := 0 + 1) (duties_later m (kcell (c, x))))
  isplitr; · iexact HI
  iexact Hat

/-- All the cells of a device, closed. -/
theorem close_all (c : Dev nD) :
    iprop(records m K₀ ∗ passed c) ⊢ |={Set.univ}=> iprop(Pipeline.ownSems0 (Ix := Unit) (Name := ℕ) (U := UU) (Lvl := ℕ) (Val := Elt F) (τ := τ) osem c ∗ unscopedSems0 c) := by
  have h : iprop(records m K₀ ∗ bigSep Finset.univ fun x : CI => atPos ER (kcell (c, x)) 1 ∅ 0)
      ⊢ (|={Set.univ}=> bigSep Finset.univ fun x : CI => semVal (kcell (c, x)) 0 : sProp 𝕄) :=
    (sep_with fun x _ => close_one m K₀ c x).trans (bigSep_fupd _ _)
  rw [sep_cells, sep_cells] at h
  unfold passed
  rw [ownSems0_eq, unscopedSems0_eq, sep_six (fun j k => semVal (dCell j c k) 0)]
  iintro H
  imod h $$ H with ⟨HB, H⟩
  imodintro
  isplitl [H]; · iexact H
  iexact HB

end Cert.KProof

end
-- ==== Proof.Launch.lean ====
/-
The launch: the body's obligation, the entry and exit, and the run of the whole program for any float values.
-/
module

public import proofs.«01_k».proof.Proof.Exit
public import Idealize.ShloMosaic.Lib.Pipeline.CollectiveSegs

@[expose] public section

noncomputable section

namespace Cert.KProof

open Cert.KernelIdeal Cert.KernelIdeal.Gen
open Idealize.ShloMosaic
open Idealize.ShloMosaic.TcCoe
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The body's obligation -/

/-- The argument as it came, and the result as given. -/
def outer (c : Dev nD) (f : Buf (Elt F) ((c : Thread nD τ).loc main_v1)) : sProp 𝕄 :=
  iprop((((c : Thread nD τ).loc main_arg0) ↦{fullShare} xin m c) ∗ (((c : Thread nD τ).loc main_v1) ↦{fullShare} f))

/-- What a device has when its kernel starts, its scratch buffers aside. -/
def start (c : Dev nD) : sProp 𝕄 :=
  iprop(G' m c ∗ (cred (tallyAt (barCell c) () 2) ∗ All (fun k => crd 3 c k NB) ∗ All (fun k => crd 5 c k NB)) ∗ levAts L lv
    ∗ outer m c (m ((c : Thread nD τ).loc main_v1)))
/-- What it has at the end, its scratch buffers and its transfers' counters aside. -/
def done (c : Dev nD) : sProp 𝕄 := iprop(outer m c (outFn m c) ∗ unscopedSems0 c)

/-- The kernel has one grid point and no windows: it works on whole buffers. -/
def dats (_ : Fin 1) (c : Dev nD) : Dat τ (Elt F) Unit ℕ UU ℕ cfg0 c where
  A w := w.elim0
  after w _ := w.elim0
  Φ t := match t with
    | ⟨0, _⟩ => iprop(start m c ∗ scratch c)
    | ⟨_ + 1, _⟩ => iprop(done m c ∗ Pipeline.ownSems0 (Ix := Unit) (Name := ℕ) (U := UU) (Lvl := ℕ) (Val := Elt F) (τ := τ) osem c ∗ scratch c)
  q _ := fullShare
  owed t := match t with
    | ⟨0, _⟩ => O₀ c
    | ⟨_ + 1, _⟩ => 0

/-- The body of one device, from its start to its end. -/
theorem wp_body (c : Dev nD) (Q : PUnit → sProp 𝕄) :
    iprop((start m c ∗ scratch c) ∗ owesE c (O₀ c)
        ∗ ((done m c ∗ Pipeline.ownSems0 (Ix := Unit) (Name := ℕ) (U := UU) (Lvl := ℕ) (Val := Elt F) (τ := τ) osem c ∗ scratch c) -∗ owesE c 0 -∗ Q ⟨⟩))
      ⊢ Wp c (phases c) Q := by
  unfold start G' stand payToks done
  iintro ⟨⟨⟨⟨%K, #HR, ⟨HaB, Hb⟩, ⟨⟨HtBx, HtBy⟩, Ht⟩⟩, ⟨HcB, Hc3, Hc5⟩, #HL, Hout⟩, Hscr⟩, HO, HK⟩
  unfold outer
  icases Hout with ⟨Hx, Ho⟩
  ihave Hheld := (held_intro m c) $$ [Hx Ho Hscr]
  · isplitl [Hx]; · iexact Hx
    isplitl [Ho] <;> iassumption
  icases Hheld with ⟨Hheld, Hsp⟩
  iapply (wp_phases m K c Q)
  isplitr
  · unfold env; isplitl; · iexact HR
    iexact HL
  isplitl [HaB HcB HtBx HtBy Hb Ht Hc3 Hc5]
  · unfold ghost
    isplitl [HaB HcB HtBx HtBy]
    · isplitl [HaB]; · iexact HaB
      isplitl [HcB]; · iexact HcB
      isplitl [HtBx] <;> iassumption
    isplitl [Hb]; · iexact Hb
    isplitl [Ht]; · iexact Ht
    isplitl [Hc3] <;> iassumption
  isplitl [Hheld]; · iexact Hheld
  isplitl [HO]; · iexact HO
  iintro ⟨Hpass, Hfill, HO⟩
  unfold Wp
  rw [wp_ret]
  imod (close_all m K c) $$ [Hpass] with ⟨Hos, Hus⟩
  · isplitr; · iexact HR
    iexact Hpass
  imodintro
  ihave Hall := (filled_exit m c) $$ [Hfill Hsp]
  · isplitl [Hfill] <;> iassumption
  icases Hall with ⟨Hx, Ho, Hscr⟩
  iapply HK $$ [Hx Ho Hus Hos Hscr] [HO]
  · isplitl [Hx Ho Hus]
    · isplitl [Hx Ho]
      · isplitl [Hx] <;> iassumption
      iexact Hus
    isplitl [Hos] <;> iassumption
  iexact HO

set_option maxRecDepth 100000 in
theorem body_obligation (c : Dev nD) : BodyObligation (dats (F := F) m 0 c) (defs₀ (F := F)) 𝒱₀ () Set.univ := fun t => by
  rw [fin_N0 t]
  show iprop((start m c ∗ scratch c) ∗ (dats m 0 c).owesAt () t0_0.castSucc ∗ _) ⊢ wp frame (wpE (defs₀ (F := F)) 𝒱₀ (c : Thread nD τ) none) Set.univ (bodyAt0 t0_0) _
  rw [body_eq, wp_deviceId]
  iintro ⟨Hs, HO, Hw⟩
  iapply (wp_body m c _)
  isplitl [Hs]; · iexact Hs
  unfold Dat.owesAt Pipeline.owesWithin
  isplitl [HO]
  · icases HO with ⟨%W, -, HO⟩
    unfold owesE
    iexists W; iexact HO
  iintro Hd HO
  isplitl [Hd]
  · iapply (Entails.of_eq (show iprop(done m c ∗ Pipeline.ownSems0 (Ix := Unit) (Name := ℕ) (U := UU) (Lvl := ℕ) (Val := Elt F) (τ := τ) osem c ∗ scratch c)
      = (dats m 0 c).Φ t0_0.succ from rfl))
    iexact Hd
  isplitl [HO]
  · unfold owesE
    icases HO with ⟨%W, HO⟩
    iexists W
    isplitr; · ipureintro; exact fun _ _ => Or.inl trivial
    iexact HO
  iexact Hw

/-! ## Entry and exit -/

theorem ownSemFacts : Pipeline.OwnSemFacts cfg0.spec osem := by decide +kernel

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨⟨Hx, Ho⟩, Hlev, Hcr, -, HG⟩
  ihave Hc := (creds (F := F) c) $$ Hcr
  imodintro
  unfold start outer
  isplitl
  · isplitl [HG]; · iexact HG
    isplitl [Hc]; · iexact Hc
    isplitl [Hlev]; · iexact Hlev
    isplitl [Hx]; · iexact Hx
    iexact Ho
  · iempintro

theorem entry (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(start m c ∗ scratch c) from rfl, scopedRest0_eq]
  unfold scratch
  iintro ⟨Hs, -, Hr⟩
  isplitl [Hs] <;> iassumption

theorem leave (c : Dev nD) :
    (dats m 0 c).Φ (Fin.last cfg0.N) ⊢ iprop(done m c ∗ Pipeline.ownSems0 osem c ∗ Pipeline.scopedRest cfg0.spec c) := by
  rw [show (dats m 0 c).Φ (Fin.last cfg0.N)
    = iprop(done m c ∗ Pipeline.ownSems0 (Ix := Unit) (Name := ℕ) (U := UU) (Lvl := ℕ) (Val := Elt F) (τ := τ) osem c ∗ scratch c) from rfl, scopedRest0_eq]
  unfold scratch
  iintro H; iexact H

/-! ## The run -/

def u₀ : UU := (initOf (Pipeline.cells cfgs cellOf_inj) (Pipeline.launchToks cfgs cellOf_inj), initOf protoCells protoToks)

/-- Reading the final memory: the argument as it came, the result as computed, the barrier's counter at zero. -/
theorem read_done (c : Dev nD) (s' : Phys nD τ sig (Elt F)) :
    iprop(done m c ∗ emp ∗ SI s') ⊢ (|={Set.univ}=> iprop(⌜(s'.mem.mem ((c : Thread nD τ).loc main_arg0) = xin m c ∧ s'.mem.mem ((c : Thread nD τ).loc main_v1) = outFn m c)
        ∧ ∀ sm : SemLoc sig, sm.isScoped .tc = false → s'.mem.sem ((c.tc : Thread nD τ), sm) = 0⌝ ∗ SI s') : sProp 𝕄) := by
  unfold done outer
  iintro ⟨⟨⟨Hx, Ho⟩, Hu⟩, -, HSI⟩
  icombine HSI Hx gives %hx
  icombine HSI Ho gives %ho
  imod (Pipeline.unscopedSems0_read (X := unscopedSems0 c) (c := c) fupd_intro s') $$ [Hu HSI] with ⟨%hs, HSI⟩
  · isplitl [Hu] <;> iassumption
  imodintro
  isplitr
  · ipureintro; exact ⟨⟨Buf.eq_of_forall_mem_univ hx, Buf.eq_of_forall_mem_univ ho⟩, hs⟩
  iexact HSI

set_option maxRecDepth 100000 in
/-- For any float values and from any memory with the counters at zero, every fair execution of the program on the four
    devices ends; then each device's argument is as it came, its result is `outFn m c`, and every counter is zero. -/
theorem run_main : θ_run (defs (F := F)) (onTc (τ := τ) (main (F := F))) ⟨m, fun _ => 0, ρ⟩ (fun r =>
    (∀ c : Dev nD, r.2.mem ((c : Thread nD τ).loc main_arg0) = m ((c : Thread nD τ).loc main_arg0) ∧ r.2.mem ((c : Thread nD τ).loc main_v1) = outFn m c)
      ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := fun c => Pipeline.cellsWaits_intro cfgs (dats m) () 0 c fun w s t => w.elim0)
    (G := G m) (G' := G' m) (u₀ := u₀)
    (hu₀ := by
      unfold u₀
      iintro Hu
      ihave H := (ownU_pair _ _) $$ Hu
      icases H with ⟨HP, HX⟩
      imod (fund_proto m) $$ HX with HG
      imodintro
      isplitl [HP] <;> iassumption)
    (hglob := glob m)
    (hA := fun _ w => w.elim0) (hpf := fun _ k => k.elim0)
    (X := start m) (Y := done m) (Z := fun _ => iprop(emp))
    (hX := start_intro m ρ) (hin := entry m) (hout := leave m)
    (QY := fun c s => (s.mem ((c : Thread nD τ).loc main_arg0) = xin m c ∧ s.mem ((c : Thread nD τ).loc main_v1) = outFn m c)
      ∧ ∀ sm : SemLoc sig, sm.isScoped .tc = false → s.sem ((c.tc : Thread nD τ), sm) = 0)
    (hY := read_done m)
    (hQ := fun _ h hs => ⟨fun c => (h c).2.2.1, sem_eq_zero hs fun c => (h c).2.2.2⟩)

end Cert.KProof

end
-- ==== Proof.Value.lean ====
/-
The values: over the extended reals the result of each device is its columns of the sum of the two slices.
-/
module

public import proofs.«01_k».proof.Proof.Contents
public import Idealize.ShloMosaic.PureOps.Ideal.Laws
public import Idealize.ShloMosaic.Lib.Layout
public import Idealize.ShloMosaic.Lib.Pipeline.Value

@[expose] public section

noncomputable section

namespace Cert.KProof

open Cert.KernelIdeal Cert.KernelIdeal.Gen
open Idealize.ShloMosaic Idealize.SL.Sem
open Idealize.ShloMosaic.TcCoe
open Idealize.ShloMosaic.ValueIdx

/-! ## The arithmetic of a chunk -/

/-- Rounding a chunk changes nothing over the extended reals. -/
theorem pay7_val (v : Vec Ideal S1x64x512 .f32) (y : S1x64x512.Idx) : k0_pay7 (F := Ideal) v y = v y :=
  congrFun (shapeCast_shapeCast v shapeCasts_S1x64x512_S64x512 shapeCasts_S64x512_S1x64x512) y

/-- Two chunks are added entry by entry. -/
theorem pay52_val (v w : Vec Ideal S1x64x512 .bf16) (y : S1x64x512.Idx) : k0_pay52 (F := Ideal) v w y = (v y : EReal) + w y :=
  congrArg₂ (fun a b : EReal => a + b) (congrFun (shapeCast_shapeCast v shapeCasts_S1x64x512_S64x512 shapeCasts_S64x512_S1x64x512) y)
    (congrFun (shapeCast_shapeCast w shapeCasts_S1x64x512_S64x512 shapeCasts_S64x512_S1x64x512) y)

/-! ## Which columns a device sends and keeps -/

theorem colO_at : ∀ d : Dev nD, k0_off2 d 2 = 512 - 512 * (d.val / 2) := by decide +kernel
theorem colM_at : ∀ d : Dev nD, k0_off18 d 2 = 512 * (d.val / 2) := by decide +kernel
theorem px_div : ∀ c : Dev nD, (px c).val / 2 = 1 - c.val / 2 := by decide
theorem py_div : ∀ c : Dev nD, (py c).val / 2 = c.val / 2 := by decide
theorem div_lt : ∀ c : Dev nD, c.val / 2 < 2 := by decide
theorem mod_lt (c : Dev nD) : c.val % 2 < 2 := Nat.mod_lt _ (by decide)

/-- Column `j` of the columns of the result that device `c` holds. -/
def col (c : Dev nD) (j : Fin 512) : Fin 1024 := ⟨512 * (c.val / 2) + j.val, by have := div_lt c; have := j.isLt; omega⟩

theorem loadO_emb (c : Dev nD) (k : Fin 16) (y : S1x64x512.Idx) :
    (Rect.unit (s := S16x64x1024) (offO k c) S1x64x512.size (offO_inb k c)).emb y = (ix3 k (y 1) (col (px c) (y 2)) : S16x64x1024.Idx) := by
  have hc := colO_at c
  have hp := px_div c
  have hd := div_lt c
  funext a
  apply Fin.ext
  rw [Rect.emb_apply]
  match a with
  | ⟨0, _⟩ => show k.val + 1 * (y 0).val = k.val; have : (y 0).val < 1 := (y 0).isLt; omega
  | ⟨1, _⟩ => show 0 + 1 * (y 1).val = (y 1).val; omega
  | ⟨2, _⟩ => show k0_off2 c 2 + 1 * (y 2).val = 512 * ((px c).val / 2) + (y 2).val; omega
theorem loadM_emb (c : Dev nD) (k : Fin 16) (y : S1x64x512.Idx) :
    (Rect.unit (s := S16x64x1024) (offM k c) S1x64x512.size (offM_inb k c)).emb y = (ix3 k (y 1) (col c (y 2)) : S16x64x1024.Idx) := by
  have hc := colM_at c
  funext a
  apply Fin.ext
  rw [Rect.emb_apply]
  match a with
  | ⟨0, _⟩ => show k.val + 1 * (y 0).val = k.val; have : (y 0).val < 1 := (y 0).isLt; omega
  | ⟨1, _⟩ => show 0 + 1 * (y 1).val = (y 1).val; omega
  | ⟨2, _⟩ => show k0_off18 c 2 + 1 * (y 2).val = 512 * (c.val / 2) + (y 2).val; omega

/-! ## The result -/

variable (m : (ℓ : Loc nD τ sig) → Buf (Elt Ideal) ℓ)

/-- What a device sends is the x peer's columns of its rows. -/
theorem sendFn_val (c : Dev nD) (k : Fin 16) (i : Fin 64) (j : Fin 512) :
    sendFn m c (ix3 k i j) = xin m c (ix3 (0 : Fin 1) (row c k i) (col (px c) j)) :=
  (pay7_val (ldO m c k) (ix3 (0 : Fin 1) i j)).trans (congrArg (chunkFn m c) (loadO_emb c k (ix3 (0 : Fin 1) i j)))
/-- What a device keeps is its own columns of its rows. -/
theorem keepFn_val (c : Dev nD) (k : Fin 16) (i : Fin 64) (j : Fin 512) :
    keepFn m c (ix3 k i j) = xin m c (ix3 (0 : Fin 1) (row c k i) (col c j)) :=
  (pay7_val (ldM m c k) (ix3 (0 : Fin 1) i j)).trans (congrArg (chunkFn m c) (loadM_emb c k (ix3 (0 : Fin 1) i j)))

theorem row_px (c : Dev nD) (k : Fin 16) (i : Fin 64) : row (px c) k i = row c k i :=
  Fin.ext (by show 1024 * ((px c).val % 2) + 64 * k.val + i.val = 1024 * (c.val % 2) + 64 * k.val + i.val; rw [px_mod])

/-- A sum: the device's own entry and the x peer's at the same place. -/
theorem sumFn_val (c : Dev nD) (k : Fin 16) (i : Fin 64) (j : Fin 512) :
    sumFn m c (ix3 k i j) = (xin m c (ix3 (0 : Fin 1) (row c k i) (col c j)) : EReal) + xin m (px c) (ix3 (0 : Fin 1) (row c k i) (col c j)) := by
  refine (pay52_val _ _ (ix3 (0 : Fin 1) i j)).trans (congrArg₂ (fun a b : EReal => a + b) ?_ ?_)
  · exact (congrArg (keepFn m c) (rC_emb k (ix3 (0 : Fin 1) i j))).trans (keepFn_val m c k i j)
  · refine (congrArg (sendFn m (px c)) (rC_emb k (ix3 (0 : Fin 1) i j))).trans ((sendFn_val m (px c) k i j).trans ?_)
    rw [px_px, row_px]

/-- The row that the chunk and its row name, on the device that holds it. -/
theorem row_src (d : Dev nD) (r : Fin 2048) (h : r.val / 1024 = d.val % 2) :
    row d ⟨r.val % 1024 / 64, by omega⟩ ⟨r.val % 64, Nat.mod_lt _ (by decide)⟩ = r :=
  Fin.ext (by show 1024 * (d.val % 2) + 64 * (r.val % 1024 / 64) + r.val % 64 = r.val; omega)

/-! ## Against the whole arrays -/

variable (X : (⟨3, ![2, 2048, 1024]⟩ : Shape).Idx → EReal)

theorem slice_at : ∀ c : Dev nD, ((Layout.meshBlock [2, 2] ![[0], [], []] c) 0).val = c.val / 2
    ∧ ((Layout.meshBlock [2, 2] ![[0], [], []] c) 1).val = 0 ∧ ((Layout.meshBlock [2, 2] ![[0], [], []] c) 2).val = 0 := by decide
theorem cols_at : ∀ c : Dev nD, ((Layout.meshBlock [2, 2] ![[], [0]] c) 0).val = 0
    ∧ ((Layout.meshBlock [2, 2] ![[], [0]] c) 1).val = c.val / 2 := by decide

/-- A device's argument is the slice its x coordinate names. -/
theorem xin_val (hX : ∀ c : Dev nD, xin m c = Layout.blockN ⟨3, ![1, 2048, 1024]⟩ ⟨3, ![2, 2048, 1024]⟩ (Layout.meshBlock [2, 2] ![[0], [], []] c) X)
    (c : Dev nD) (r : Fin 2048) (j : Fin 1024) : xin m c (ix3 (0 : Fin 1) r j) = X (ix3 (⟨c.val / 2, div_lt c⟩ : Fin 2) r j) := by
  rw [hX c, Layout.blockN_apply]
  obtain ⟨h0, h1, h2⟩ := slice_at c
  refine congrArg X (funext fun a => Fin.ext ?_)
  rw [Layout.TilesN.idx_val]
  match a with
  | ⟨0, _⟩ => show ((Layout.meshBlock [2, 2] ![[0], [], []] c) 0).val * 1 + 0 = c.val / 2; omega
  | ⟨1, _⟩ => show ((Layout.meshBlock [2, 2] ![[0], [], []] c) 1).val * 2048 + r.val = r.val; omega
  | ⟨2, _⟩ => show ((Layout.meshBlock [2, 2] ![[0], [], []] c) 2).val * 1024 + j.val = j.val; omega

/-- A sum is the sum of the two slices. -/
theorem sum_val (hX : ∀ c : Dev nD, xin m c = Layout.blockN ⟨3, ![1, 2048, 1024]⟩ ⟨3, ![2, 2048, 1024]⟩ (Layout.meshBlock [2, 2] ![[0], [], []] c) X)
    (c : Dev nD) (k : Fin 16) (i : Fin 64) (j : Fin 512) :
    sumFn m c (ix3 k i j) = X (ix3 (0 : Fin 2) (row c k i) (col c j)) + X (ix3 (1 : Fin 2) (row c k i) (col c j)) := by
  rw [sumFn_val, xin_val m X hX, xin_val m X hX]
  have hp := px_div c
  rcases Nat.lt_or_ge (c.val / 2) 1 with h | h
  · rw [show (⟨c.val / 2, div_lt c⟩ : Fin 2) = 0 from Fin.ext (by show c.val / 2 = 0; omega),
      show (⟨(px c).val / 2, div_lt (px c)⟩ : Fin 2) = 1 from Fin.ext (by show (px c).val / 2 = 1; omega)]
  · have := div_lt c
    rw [show (⟨c.val / 2, div_lt c⟩ : Fin 2) = 1 from Fin.ext (by show c.val / 2 = 1; omega),
      show (⟨(px c).val / 2, div_lt (px c)⟩ : Fin 2) = 0 from Fin.ext (by show (px c).val / 2 = 0; omega), add_comm]

theorem col_py (c : Dev nD) (j : Fin 512) : col (py c) j = col c j :=
  Fin.ext (by show 512 * ((py c).val / 2) + j.val = 512 * (c.val / 2) + j.val; rw [py_div])

/-- The sum a device makes for a row of its own half. -/
theorem sum_row (hX : ∀ c : Dev nD, xin m c = Layout.blockN ⟨3, ![1, 2048, 1024]⟩ ⟨3, ![2, 2048, 1024]⟩ (Layout.meshBlock [2, 2] ![[0], [], []] c) X)
    (d : Dev nD) (r : Fin 2048) (h : r.val / 1024 = d.val % 2) (j : Fin 512) :
    sumFn m d (ix3 (⟨r.val % 1024 / 64, by omega⟩ : Fin 16) (⟨r.val % 64, Nat.mod_lt _ (by decide)⟩ : Fin 64) j)
      = X (ix3 (0 : Fin 2) r (col d j)) + X (ix3 (1 : Fin 2) r (col d j)) := by
  rw [sum_val m X hX, row_src d r h]

/-- Every entry of a device's result is the sum of the two slices at its row and the device's column. -/
theorem outFn_val (hX : ∀ c : Dev nD, xin m c = Layout.blockN ⟨3, ![1, 2048, 1024]⟩ ⟨3, ![2, 2048, 1024]⟩ (Layout.meshBlock [2, 2] ![[0], [], []] c) X)
    (c : Dev nD) (i : S2048x512.Idx) :
    outFn m c i = X (ix3 (0 : Fin 2) (i 0) (col c (i 1))) + X (ix3 (1 : Fin 2) (i 0) (col c (i 1))) := by
  have hr : (i 0).val < 2048 := (i 0).isLt
  unfold outFn srcIx
  split
  · next h => exact sum_row m X hX c (i 0) h (i 1)
  · next h =>
    have hm := mod_lt c
    have hy := py_mod c
    refine (sum_row m X hX (py c) (i 0) (by omega) (i 1)).trans ?_
    exact congrArg (fun a => X (ix3 (0 : Fin 2) (i 0) a) + X (ix3 (1 : Fin 2) (i 0) a)) (col_py c (i 1))

/-- A device's result is its columns of any array whose entries are the sums of the two slices. -/
theorem outFn_block (hX : ∀ c : Dev nD, xin m c = Layout.blockN ⟨3, ![1, 2048, 1024]⟩ ⟨3, ![2, 2048, 1024]⟩ (Layout.meshBlock [2, 2] ![[0], [], []] c) X)
    (v : (⟨2, ![2048, 1024]⟩ : Shape).Idx → EReal)
    (hv : ∀ j : (⟨2, ![2048, 1024]⟩ : Shape).Idx, v j = X (ix3 (0 : Fin 2) (j 0) (j 1)) + X (ix3 (1 : Fin 2) (j 0) (j 1)))
    (c : Dev nD) : outFn m c = Layout.blockN ⟨2, ![2048, 512]⟩ ⟨2, ![2048, 1024]⟩ (Layout.meshBlock [2, 2] ![[], [0]] c) v := by
  funext i
  obtain ⟨h0, h1⟩ := cols_at c
  rw [Layout.blockN_apply, hv]
  refine (outFn_val m X hX c i).trans (congrArg₂ (fun a b => X (ix3 (0 : Fin 2) a b) + X (ix3 (1 : Fin 2) a b)) (Fin.ext ?_) (Fin.ext ?_))
  · show (i 0).val = ((Layout.meshBlock [2, 2] ![[], [0]] c) 0).val * 2048 + (i 0).val; omega
  · show 512 * (c.val / 2) + (i 1).val = ((Layout.meshBlock [2, 2] ![[], [0]] c) 1).val * 512 + (i 1).val; omega

end Cert.KProof

end
-- ==== Proof.Reference.lean ====
/-
The reference, entry by entry, over the extended reals.
-/
module

public import proofs.«01_k».proof.Proof.Gen.ReferenceIdeal.Run
public import Idealize.ShloMosaic.Lib.IdealHost
public import Idealize.ShloMosaic.Lib.ValueLayout
public import Idealize.ShloMosaic.Lib.Pointwise.Reduce

@[expose] public section

noncomputable section

namespace Cert.KProof

open Idealize.ShloMosaic
open Cert.ReferenceIdeal Cert.ReferenceIdeal.Gen

/-- The reference's result as a function of its argument. -/
def refFn (x : FVec Ideal S2x2048x1024 .f32) : FVec Ideal S2048x1024 .bf16 :=
  truncf .bf16 (Host.reduceAdd x (constant S_ .f32 0x00000000#32) Facts₀.reducesTo_S2x2048x1024_S2048x1024_d0 Facts₀.h_S_) Facts₀.bitsLt_bf16_f32

/-- Each of its entries is the sum of the two slices there. -/
theorem refFn_val (x : FVec Ideal S2x2048x1024 .f32) (j : S2048x1024.Idx) :
    refFn x j = (x (ValueIdx.ix3 (0 : Fin 2) (j 0) (j 1)) : EReal) + x (ValueIdx.ix3 (1 : Fin 2) (j 0) (j 1)) := by
  unfold refFn
  rw [ValueIdx.truncf_apply, ValueIdx.hostReduceAdd_apply, Ideal.hostReduceAdd_r3_a0, Fin.sum_univ_two,
    show (constant (F := Ideal) S_ .f32 0x00000000#32 (Shape.Idx.first Facts₀.h_S_) : EReal) = 0 from Ideal.ofBits_zero_f32, zero_add]
  rfl

end Cert.KProof

end
-- ==== Proof.lean ====
/-
The claims about the two-axis reduction on a 2 × 2 mesh: the three frames, and that over the extended reals each
device's result is its block of columns of the sum over the first axis. The run of the kernel is in `Proof.Launch`,
what it computes in `Proof.Value`, the reference in `Proof.Reference`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import proofs.«01_k».proof.Proof.Reference
public import Idealize.ShloMosaic.Adequacy
public import Idealize.ShloMosaic.Init

@[expose] public section

noncomputable section

namespace Cert.Proof

open Idealize.ShloMosaic Idealize.ShloMosaic.TcCoe Idealize.SL.Sem

/-- The kernel on machine floats ends with its argument as it came and every counter at zero: the run for any float
    values, read at those. -/
theorem frame_kernel : Cert.quiescent_Kernel := fun m ρ _ =>
  (θ_run Cert.KernelIdeal.defs _ _).mono (fun _ h => ⟨fun c => (h.1 c).1, h.2⟩) (Cert.KProof.run_main (F := Bits) m ρ)

/-- The same over the extended reals. -/
theorem frame_ideal : Cert.quiescent_KernelIdeal := fun m ρ _ =>
  (θ_run Cert.KernelIdeal.defs _ _).mono (fun _ h => ⟨fun c => (h.1 c).1, h.2⟩) (Cert.KProof.run_main (F := Ideal) m ρ)

/-- The reference ends with its argument as it came and every counter at zero. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's result on each device is that device's columns of the reference's, over the extended reals. -/
theorem values : Cert.algebraic_KernelIdeal_ReferenceIdeal := fun m ρ m' ρ' _ hm =>
  ⟨Cert.KProof.refFn (m' (((0 : Dev Cert.ReferenceIdeal.nD).tc : Thread Cert.ReferenceIdeal.nD Cert.ReferenceIdeal.τ).loc Cert.ReferenceIdeal.main_arg0)),
    (θ_run Cert.KernelIdeal.defs _ _).mono (fun _ h c => ⟨(h.1 c).2.trans (Cert.KProof.outFn_block m _ hm _ (Cert.KProof.refFn_val _) c), (h.1 c).1⟩)
      (Cert.KProof.run_main (F := Ideal) m ρ),
    (θ_run Cert.ReferenceIdeal.defs _ _).mono (fun _ h => h 0) (Cert.ReferenceIdeal.Value.run (F := Ideal) m' ρ')⟩

/-- All the claims. -/
theorem claim : Cert.Claim := ⟨Cert.Kernel.Gen.facts, Cert.KernelIdeal.Gen.facts, Cert.ReferenceIdeal.Gen.facts,
  frame_kernel, frame_ideal, frame_reference, trivial, values⟩

end Cert.Proof

end
